-- ==== Defs.lean ====
def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_values_15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_scores_below_infinity : Cert.Pre_scores_below_infinity.Facts),
    quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S20000x4 : Shape := ⟨2, ![20000, 4]⟩
abbrev S20000 : Shape := ⟨1, ![20000]⟩
abbrev S_ : Shape := ⟨0, ![]⟩

class Facts : Prop where
  bcast_S_S20000 : S_.BroadcastsInDim S20000 (![] : Fin 0 → Fin S20000.rank)

variable [Facts]

def fn {F : FTy → Type} [FloatOps F] (main_arg0 : FVec F S20000x4 .f32) (main_arg1 : FVec F S20000 .f32) : IVec S20000 1 :=
  let main_cst : FVec F S_ .f32 := constant S_ .f32 0x7F800000#32
  let main_v0 : FVec F S20000 .f32 := broadcastInDim S20000 ![] bcast_S_S20000 main_cst
  let main_v1 : IVec S20000 1 := cmpf .olt main_arg1 main_v0
  main_v1
-- ==== KernelIdeal.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S4x2000 : Shape := ⟨2, ![4, 2000]⟩
abbrev S4x2048 : Shape := ⟨2, ![4, 2048]⟩
abbrev S2048 : Shape := ⟨1, ![2048]⟩
abbrev S1x2048 : Shape := ⟨2, ![1, 2048]⟩
abbrev S1024x8 : Shape := ⟨2, ![1024, 8]⟩
abbrev S2048x2048 : Shape := ⟨2, ![2048, 2048]⟩
abbrev S2048x4 : Shape := ⟨2, ![2048, 4]⟩
abbrev S2048x1 : Shape := ⟨2, ![2048, 1]⟩
abbrev S1x1x2048 : Shape := ⟨3, ![1, 1, 2048]⟩
abbrev S1x1x1 : Shape := ⟨3, ![1, 1, 1]⟩
abbrev S3x2048 : Shape := ⟨2, ![3, 2048]⟩
abbrev S8x2048 : Shape := ⟨2, ![8, 2048]⟩
abbrev S1024x2048 : Shape := ⟨2, ![1024, 2048]⟩
abbrev S1000x4 : Shape := ⟨2, ![1000, 4]⟩
abbrev S1000x1 : Shape := ⟨2, ![1000, 1]⟩
abbrev S1000 : Shape := ⟨1, ![1000]⟩

abbrev nBuf : Space → Nat
  | .hbm => 39
  | .vmem => 3
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S2000, .f32⟩
  | .hbm, ⟨3, _⟩ => ⟨S2000, .i32⟩
  | .hbm, ⟨4, _⟩ => ⟨S_, .i32⟩
  | .hbm, ⟨5, _⟩ => ⟨S2000, .i32⟩
  | .hbm, ⟨6, _⟩ => ⟨S2000, .i1⟩
  | .hbm, ⟨7, _⟩ => ⟨S_, .i32⟩
  | .hbm, ⟨8, _⟩ => ⟨S2000, .i32⟩
  | .hbm, ⟨9, _⟩ => ⟨S2000, .i32⟩
  | .hbm, ⟨10, _⟩ => ⟨S2000, .i32⟩
  | .hbm, ⟨11, _⟩ => ⟨S2000x1, .i32⟩
  | .hbm, ⟨12, _⟩ => ⟨S1, .i32⟩
  | .hbm, ⟨13, _⟩ => ⟨S_, .i32⟩
  | .hbm, ⟨14, _⟩ => ⟨S2000x1, .i32⟩
  | .hbm, ⟨15, _⟩ => ⟨S2000x1, .i1⟩
  | .hbm, ⟨16, _⟩ => ⟨S1x1, .i32⟩
  | .hbm, ⟨17, _⟩ => ⟨S2000x1, .i32⟩
  | .hbm, ⟨18, _⟩ => ⟨S2000x1, .i1⟩
  | .hbm, ⟨19, _⟩ => ⟨S2000x1, .i1⟩
  | .hbm, ⟨20, _⟩ => ⟨S_, .i1⟩
  | .hbm, ⟨21, _⟩ => ⟨S2000, .i1⟩
  | .hbm, ⟨22, _⟩ => ⟨S2000x4, .f32⟩
  | .hbm, ⟨23, _⟩ => ⟨S2000x4, .i1⟩
  | .hbm, ⟨24, _⟩ => ⟨S_, .f32⟩
  | .hbm, ⟨25, _⟩ => ⟨S2000x4, .f32⟩
  | .hbm, ⟨26, _⟩ => ⟨S2000x4, .f32⟩
  | .hbm, ⟨27, _⟩ => ⟨S4x2000, .f32⟩
  | .hbm, ⟨28, _⟩ => ⟨S_, .i32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S1024x8, .f32⟩
  | .hbm, ⟨36, _⟩ => ⟨S1000x4, .f32⟩
  | .hbm, ⟨37, _⟩ => ⟨S1000x1, .f32⟩
  | .hbm, ⟨38, _⟩ => ⟨S1000, .f32⟩
  | .local _ .vmem, ⟨0, _⟩ => ⟨S4x2048, .f32⟩
  | .local _ .vmem, ⟨1, _⟩ => ⟨S1x2048, .f32⟩
  | .local _ .vmem, ⟨2, _⟩ => ⟨S1024x8, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_call1_v0 : Ref sig .tc := ⟨.hbm, 29, rfl⟩
abbrev main_v2 : Ref sig .tc := ⟨.hbm, 30, rfl⟩
abbrev main_cst : Ref sig .tc := ⟨.hbm, 31, rfl⟩
abbrev main_call2_v0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S1000 : Shape := ⟨1, ![1000]⟩
abbrev S1000x1 : Shape := ⟨2, ![1000, 1]⟩
abbrev S1000x4 : Shape := ⟨2, ![1000, 4]⟩

abbrev nBuf : Space → Nat
  | .hbm => 280
  | .vmem => 0
  | .smem => 0
  | _ => 0

abbrev hbmTy0_0 (i : Nat) : BufTy := match i % 128 with
  | 0 => ⟨S20000x4, .f32⟩
  | 1 => ⟨S20000, .f32⟩
  | 2 => ⟨S2000, .f32⟩
  | 3 => ⟨S2000, .i32⟩
  | 4 => ⟨S_, .i32⟩
  | 5 => ⟨S2000, .i32⟩
  | 6 => ⟨S2000, .i1⟩
  | 7 => ⟨S_, .i32⟩
  | 8 => ⟨S2000, .i32⟩
  | 9 => ⟨S2000, .i32⟩
  | 10 => ⟨S2000, .i32⟩
  | 11 => ⟨S2000x1, .i32⟩
  | 12 => ⟨S1, .i32⟩
  | 13 => ⟨S_, .i32⟩
  | 14 => ⟨S2000x1, .i32⟩
  | 15 => ⟨S2000x1, .i1⟩
  | 16 => ⟨S1x1, .i32⟩
  | 17 => ⟨S2000x1, .i32⟩
  | 18 => ⟨S2000x1, .i1⟩
  | 19 => ⟨S2000x1, .i1⟩
  | 20 => ⟨S_, .i1⟩
  | 21 => ⟨S2000, .i1⟩
  | 22 => ⟨S2000x4, .f32⟩
  | 23 => ⟨S2000x4, .i1⟩
  | 24 => ⟨S_, .f32⟩
  | 25 => ⟨S2000x4, .f32⟩
  | 26 => ⟨S2000x4, .f32⟩
  | 27 => ⟨S2000x1, .f32⟩
  | 28 => ⟨S2000, .f32⟩
  | 29 => ⟨S_, .f32⟩
  | 30 => ⟨S_, .f32⟩
  | 31 => ⟨S_, .f32⟩
  | 32 => ⟨S2000, .f32⟩
  | 33 => ⟨S2000, .f32⟩
  | 34 => ⟨S_, .f32⟩
  | 35 => ⟨S2000, .f32⟩
  | 36 => ⟨S2000, .f32⟩
  | 37 => ⟨S2000x1, .f32⟩
  | 38 => ⟨S2000, .f32⟩
  | 39 => ⟨S_, .f32⟩
  | 40 => ⟨S_, .f32⟩
  | 41 => ⟨S_, .f32⟩
  | 42 => ⟨S2000, .f32⟩
  | 43 => ⟨S2000, .f32⟩
  | 44 => ⟨S_, .f32⟩
  | 45 => ⟨S2000, .f32⟩
  | 46 => ⟨S2000, .f32⟩
  | 47 => ⟨S2000x1, .f32⟩
  | 48 => ⟨S2000, .f32⟩
  | 49 => ⟨S_, .f32⟩
  | 50 => ⟨S_, .f32⟩
  | 51 => ⟨S_, .f32⟩
  | 52 => ⟨S2000, .f32⟩
  | 53 => ⟨S2000, .f32⟩
  | 54 => ⟨S_, .f32⟩
  | 55 => ⟨S2000, .f32⟩
  | 56 => ⟨S2000, .f32⟩
  | 57 => ⟨S2000x1, .f32⟩
  | 58 => ⟨S2000, .f32⟩
  | 59 => ⟨S_, .f32⟩
  | 60 => ⟨S_, .f32⟩
  | 61 => ⟨S_, .f32⟩
  | 62 => ⟨S2000, .f32⟩
  | 63 => ⟨S2000, .f32⟩
  | 64 => ⟨S_, .f32⟩
  | 65 => ⟨S2000, .f32⟩
  | 66 => ⟨S2000, .f32⟩
  | 67 => ⟨S2000x1, .f32⟩
  | 68 => ⟨S2000x1, .f32⟩
  | 69 => ⟨S2000x1, .f32⟩
  | 70 => ⟨S2000x1, .f32⟩
  | 71 => ⟨S2000x4, .f32⟩
  | 72 => ⟨S2000x1, .f32⟩
  | 73 => ⟨S2000, .f32⟩
  | 74 => ⟨S2000x1, .f32⟩
  | 75 => ⟨S2000, .f32⟩
  | 76 => ⟨S2000, .f32⟩
  | 77 => ⟨S2000x1, .f32⟩
  | 78 => ⟨S2000, .f32⟩
  | 79 => ⟨S2000x1, .f32⟩
  | 80 => ⟨S2000, .f32⟩
  | 81 => ⟨S2000, .f32⟩
  | 82 => ⟨S_, .f32⟩
  | 83 => ⟨S2000, .f32⟩
  | 84 => ⟨S2000, .i1⟩
  | 85 => ⟨S_, .f32⟩
  | 86 => ⟨S2000, .f32⟩
  | 87 => ⟨S2000, .i1⟩
  | 88 => ⟨S2000, .i1⟩
  | 89 => ⟨S_, .f32⟩
  | 90 => ⟨S_, .f32⟩
  | 91 => ⟨S2000, .f32⟩
  | 92 => ⟨S2000, .f32⟩
  | 93 => ⟨S2000, .f32⟩
  | 94 => ⟨S2000, .i32⟩
  | 95 => ⟨S2000, .f32⟩
  | 96 => ⟨S2000, .i32⟩
  | 97 => ⟨S_, .i32⟩
  | 98 => ⟨S2000, .i32⟩
  | 99 => ⟨S2000, .i1⟩
  | 100 => ⟨S_, .i32⟩
  | 101 => ⟨S2000, .i32⟩
  | 102 => ⟨S2000, .i32⟩
  | 103 => ⟨S2000, .i32⟩
  | 104 => ⟨S2000x1, .i32⟩
  | 105 => ⟨S1, .i32⟩
  | 106 => ⟨S_, .i32⟩
  | 107 => ⟨S2000x1, .i32⟩
  | 108 => ⟨S2000x1, .i1⟩
  | 109 => ⟨S1x1, .i32⟩
  | 110 => ⟨S2000x1, .i32⟩
  | 111 => ⟨S2000x1, .i1⟩
  | 112 => ⟨S2000x1, .i1⟩
  | 113 => ⟨S_, .i1⟩
  | 114 => ⟨S2000, .i1⟩
  | 115 => ⟨S2000x4, .f32⟩
  | 116 => ⟨S2000x4, .i1⟩
  | 117 => ⟨S_, .f32⟩
  | 118 => ⟨S2000x4, .f32⟩
  | 119 => ⟨S2000x4, .f32⟩
  | 120 => ⟨S_, .i32⟩
  | 121 => ⟨S2000, .i32⟩
  | 122 => ⟨S2000, .i1⟩
  | 123 => ⟨S_, .i32⟩
  | 124 => ⟨S2000, .i32⟩
  | 125 => ⟨S2000, .i32⟩
  | 126 => ⟨S2000, .i32⟩
  | 127 => ⟨S2000x1, .i32⟩
  | _ => ⟨S20000x4, .f32⟩

abbrev hbmTy0_1 (i : Nat) : BufTy := match i % 128 with
  | 0 => ⟨S1, .i32⟩
  | 1 => ⟨S_, .i32⟩
  | 2 => ⟨S2000x1, .i32⟩
  | 3 => ⟨S2000x1, .i1⟩
  | 4 => ⟨S1x1, .i32⟩
  | 5 => ⟨S2000x1, .i32⟩
  | 6 => ⟨S2000x1, .i1⟩
  | 7 => ⟨S2000x1, .i1⟩
  | 8 => ⟨S_, .i1⟩
  | 9 => ⟨S2000, .i1⟩
  | 10 => ⟨S2000, .f32⟩
  | 11 => ⟨S_, .f32⟩
  | 12 => ⟨S2000, .f32⟩
  | 13 => ⟨S2000, .f32⟩
  | 14 => ⟨S2000x1, .f32⟩
  | 15 => ⟨S2000, .f32⟩
  | 16 => ⟨S2000x1, .f32⟩
  | 17 => ⟨S2000, .f32⟩
  | 18 => ⟨S2000, .f32⟩
  | 19 => ⟨S2000x1, .f32⟩
  | 20 => ⟨S2000, .f32⟩
  | 21 => ⟨S2000x1, .f32⟩
  | 22 => ⟨S2000, .f32⟩
  | 23 => ⟨S2000, .f32⟩
  | 24 => ⟨S2000, .f32⟩
  | 25 => ⟨S2000x1, .f32⟩
  | 26 => ⟨S2000, .f32⟩
  | 27 => ⟨S2000x1, .f32⟩
  | 28 => ⟨S2000, .f32⟩
  | 29 => ⟨S2000, .f32⟩
  | 30 => ⟨S2000x1, .f32⟩
  | 31 => ⟨S2000, .f32⟩
  | 32 => ⟨S2000x1, .f32⟩
  | 33 => ⟨S2000, .f32⟩
  | 34 => ⟨S2000, .f32⟩
  | 35 => ⟨S2000, .f32⟩
  | 36 => ⟨S2000x2, .f32⟩
  | 37 => ⟨S2000x1x2, .f32⟩
  | 38 => ⟨S2000x2, .f32⟩
  | 39 => ⟨S1x2000x2, .f32⟩
  | 40 => ⟨S2000x2000x2, .f32⟩
  | 41 => ⟨S2000x2000x2, .f32⟩
  | 42 => ⟨S2000x2000x2, .f32⟩
  | 43 => ⟨S2000x2, .f32⟩
  | 44 => ⟨S2000x1x2, .f32⟩
  | 45 => ⟨S2000x2, .f32⟩
  | 46 => ⟨S1x2000x2, .f32⟩
  | 47 => ⟨S2000x2000x2, .f32⟩
  | 48 => ⟨S2000x2000x2, .f32⟩
  | 49 => ⟨S2000x2000x2, .f32⟩
  | 50 => ⟨S2000x2000x2, .f32⟩
  | 51 => ⟨S_, .f32⟩
  | 52 => ⟨S_, .f32⟩
  | 53 => ⟨S2000x2000x2, .f32⟩
  | 54 => ⟨S2000x2000x2, .f32⟩
  | 55 => ⟨S2000x2000x1, .f32⟩
  | 56 => ⟨S2000x2000, .f32⟩
  | 57 => ⟨S2000x2000x1, .f32⟩
  | 58 => ⟨S2000x2000, .f32⟩
  | 59 => ⟨S2000x2000, .f32⟩
  | 60 => ⟨S2000x1, .f32⟩
  | 61 => ⟨S1x2000, .f32⟩
  | 62 => ⟨S2000x2000, .f32⟩
  | 63 => ⟨S2000x2000, .f32⟩
  | 64 => ⟨S2000x2000, .f32⟩
  | 65 => ⟨S2000x2000, .f32⟩
  | 66 => ⟨S_, .f32⟩
  | 67 => ⟨S2000x2000, .f32⟩
  | 68 => ⟨S2000x2000, .f32⟩
  | 69 => ⟨S2000x2000, .f32⟩
  | 70 => ⟨S2000, .f32⟩
  | 71 => ⟨S_, .f32⟩
  | 72 => ⟨S2000, .f32⟩
  | 73 => ⟨S2000, .i1⟩
  | 74 => ⟨S2000, .i32⟩
  | 75 => ⟨S_, .i32⟩
  | 76 => ⟨S_, .i32⟩
  | 77 => ⟨S2000x2000, .f32⟩
  | 78 => ⟨S2000, .i32⟩
  | 79 => ⟨S_, .i32⟩
  | 80 => ⟨S_, .i32⟩
  | 81 => ⟨S2000, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x2000, .f32⟩
  | 101 => ⟨S2000, .f32⟩
  | 102 => ⟨S_, .f32⟩
  | 103 => ⟨S2000, .f32⟩
  | 104 => ⟨S2000, .i1⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1, .i1⟩
  | 112 => ⟨S_, .i1⟩
  | 113 => ⟨S2000, .i1⟩
  | 114 => ⟨S2000, .i1⟩
  | 115 => ⟨S_, .i32⟩
  | 116 => ⟨S2000, .i32⟩
  | 117 => ⟨S2000, .i1⟩
  | 118 => ⟨S2000, .i1⟩
  | 119 => ⟨S2000, .i1⟩
  | 120 => ⟨S2000, .i1⟩
  | 121 => ⟨S_, .i32⟩
  | 122 => ⟨S_, .i32⟩
  | 123 => ⟨S_, .f32⟩
  | 124 => ⟨S_, .f32⟩
  | 125 => ⟨S2000, .f32⟩
  | 126 => ⟨S2000, .f32⟩
  | 127 => ⟨S1000, .f32⟩
  | _ => ⟨S20000x4, .f32⟩

abbrev hbmTy0_2 (i : Nat) : BufTy := match i % 128 with
  | 0 => ⟨S1000, .i32⟩
  | 1 => ⟨S_, .i32⟩
  | 2 => ⟨S1000, .i32⟩
  | 3 => ⟨S1000, .i1⟩
  | 4 => ⟨S_, .i32⟩
  | 5 => ⟨S1000, .i32⟩
  | 6 => ⟨S1000, .i32⟩
  | 7 => ⟨S1000, .i32⟩
  | 8 => ⟨S1000x1, .i32⟩
  | 9 => ⟨S1, .i32⟩
  | 10 => ⟨S_, .i32⟩
  | 11 => ⟨S1000x1, .i32⟩
  | 12 => ⟨S1000x1, .i1⟩
  | 13 => ⟨S1x1, .i32⟩
  | 14 => ⟨S1000x1, .i32⟩
  | 15 => ⟨S1000x1, .i1⟩
  | 16 => ⟨S1000x1, .i1⟩
  | 17 => ⟨S_, .i1⟩
  | 18 => ⟨S1000, .i1⟩
  | 19 => ⟨S1000x4, .f32⟩
  | 20 => ⟨S1000x4, .i1⟩
  | 21 => ⟨S_, .f32⟩
  | 22 => ⟨S1000x4, .f32⟩
  | 23 => ⟨S1000x4, .f32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst_1 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_3 : Ref sig .tc := ⟨.hbm, 49, rfl⟩
abbrev main_cst_4 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_cst_5 : Ref sig .tc := ⟨.hbm, 59, rfl⟩
abbrev main_cst_6 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_7 : Ref sig .tc := ⟨.hbm, 82, rfl⟩
abbrev main_v28 : Ref sig .tc := ⟨.hbm, 83, rfl⟩
abbrev main_v29 : Ref sig .tc := ⟨.hbm, 84, rfl⟩
abbrev main_cst_8 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_9 : Ref sig .tc := ⟨.hbm, 89, rfl⟩
abbrev main_call5_v0 : Ref sig .tc := ⟨.hbm, 90, rfl⟩
abbrev main_call5_v1 : Ref sig .tc := ⟨.hbm, 91, rfl⟩
abbrev main_v33 : Ref sig .tc := ⟨.hbm, 92, rfl⟩
abbrev main_v34 : Ref sig .tc := ⟨.hbm, 93, rfl⟩
abbrev main_call6_v0 : Ref sig .tc := ⟨.hbm, 94, rfl⟩
abbrev main_call6_v1_0 : Ref sig .tc := ⟨.hbm, 95, rfl⟩
abbrev main_v35 : Ref sig .tc := ⟨.hbm, 96, rfl⟩
abbrev main_call7_c : Ref sig .tc := ⟨.hbm, 97, rfl⟩
abbrev main_call7_v0 : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_v5 : Ref sig .tc := ⟨.hbm, 104, rfl⟩
abbrev main_call7_c_1 : Ref sig .tc := ⟨.hbm, 105, rfl⟩
abbrev main_call7_c_2 : Ref sig .tc := ⟨.hbm, 106, rfl⟩
abbrev main_call7_v6 : Ref sig .tc := ⟨.hbm, 107, rfl⟩
abbrev main_call7_v7 : Ref sig .tc := ⟨.hbm, 108, rfl⟩
abbrev main_call7_v8 : Ref sig .tc := ⟨.hbm, 109, rfl⟩
abbrev main_call7_v9 : Ref sig .tc := ⟨.hbm, 110, rfl⟩
abbrev main_call7_v10 : Ref sig .tc := ⟨.hbm, 111, rfl⟩
abbrev main_call7_v11 : Ref sig .tc := ⟨.hbm, 112, rfl⟩
abbrev main_call7_c_3 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_call7_cst : Ref sig .tc := ⟨.hbm, 117, rfl⟩
abbrev main_call7_v15 : Ref sig .tc := ⟨.hbm, 118, rfl⟩
abbrev main_v36 : Ref sig .tc := ⟨.hbm, 119, rfl⟩
abbrev main_call8_c : Ref sig .tc := ⟨.hbm, 120, rfl⟩
abbrev main_call8_v0 : Ref sig .tc := ⟨.hbm, 121, rfl⟩
abbrev main_call8_v1 : Ref sig .tc := ⟨.hbm, 122, rfl⟩
abbrev main_call8_c_0 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_call8_v5 : Ref sig .tc := ⟨.hbm, 127, rfl⟩
abbrev main_call8_c_1 : Ref sig .tc := ⟨.hbm, 128, rfl⟩
abbrev main_call8_c_2 : Ref sig .tc := ⟨.hbm, 129, rfl⟩
abbrev main_call8_v6 : Ref sig .tc := ⟨.hbm, 130, rfl⟩
abbrev main_call8_v7 : Ref sig .tc := ⟨.hbm, 131, rfl⟩
abbrev main_call8_v8 : Ref sig .tc := ⟨.hbm, 132, rfl⟩
abbrev main_call8_v9 : Ref sig .tc := ⟨.hbm, 133, rfl⟩
abbrev main_call8_v10 : Ref sig .tc := ⟨.hbm, 134, rfl⟩
abbrev main_call8_v11 : Ref sig .tc := ⟨.hbm, 135, rfl⟩
abbrev main_call8_c_3 : Ref sig .tc := ⟨.hbm, 136, rfl⟩
abbrev main_call8_v12 : Ref sig .tc := ⟨.hbm, 137, rfl⟩
abbrev main_call8_v13 : Ref sig .tc := ⟨.hbm, 138, rfl⟩
abbrev main_call8_cst : Ref sig .tc := ⟨.hbm, 139, rfl⟩
abbrev main_call8_v14 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_cst_10 : Ref sig .tc := ⟨.hbm, 179, rfl⟩
abbrev main_call9_v0 : Ref sig .tc := ⟨.hbm, 180, rfl⟩
abbrev main_call9_v1 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_cst_11 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_cst_12 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_c : Ref sig .tc := ⟨.hbm, 203, rfl⟩
abbrev main_c_13 : Ref sig .tc := ⟨.hbm, 204, rfl⟩
abbrev main_v94_0 : Ref sig .tc := ⟨.hbm, 205, rfl⟩
abbrev main_v94_1 : Ref sig .tc := ⟨.hbm, 206, rfl⟩
abbrev main_v94_2 : Ref sig .tc := ⟨.hbm, 207, rfl⟩
abbrev main_v94_3 : Ref sig .tc := ⟨.hbm, 208, rfl⟩
abbrev main_v94_4 : Ref sig .tc := ⟨.hbm, 209, rfl⟩
abbrev main_while0c_c_21 : Ref sig .tc := ⟨.hbm, 210, rfl⟩
abbrev main_while0c_v97 : Ref sig .tc := ⟨.hbm, 211, rfl⟩
abbrev main_while0b_c_21 : Ref sig .tc := ⟨.hbm, 212, rfl⟩
abbrev main_while0b_v97 : Ref sig .tc := ⟨.hbm, 213, rfl⟩
abbrev main_while0b_v98 : Ref sig .tc := ⟨.hbm, 214, rfl⟩
abbrev main_while0b_c_22 : Ref sig .tc := ⟨.hbm, 215, rfl⟩
abbrev main_while0b_v99 : Ref sig .tc := ⟨.hbm, 216, rfl⟩
abbrev main_while0b_c_23 : Ref sig .tc := ⟨.hbm, 217, rfl⟩
abbrev main_while0b_v100 : Ref sig .tc := ⟨.hbm, 218, rfl⟩
abbrev main_while0b_v101 : Ref sig .tc := ⟨.hbm, 219, rfl⟩
abbrev main_while0b_c_24 : Ref sig .tc := ⟨.hbm, 220, rfl⟩
abbrev main_while0b_c_25 : Ref sig .tc := ⟨.hbm, 221, rfl⟩
abbrev main_while0b_v102 : Ref sig .tc := ⟨.hbm, 222, rfl⟩
abbrev main_while0b_c_26 : Ref sig .tc := ⟨.hbm, 223, rfl⟩
abbrev main_while0b_c_27 : Ref sig .tc := ⟨.hbm, 224, rfl⟩
abbrev main_while0b_v103 : Ref sig .tc := ⟨.hbm, 225, rfl⟩
abbrev main_while0b_c_28 : Ref sig .tc := ⟨.hbm, 226, rfl⟩
abbrev main_while0b_v104 : Ref sig .tc := ⟨.hbm, 227, rfl⟩
abbrev main_while0b_v105 : Ref sig .tc := ⟨.hbm, 228, rfl⟩
abbrev main_while0b_v106 : Ref sig .tc := ⟨.hbm, 229, rfl⟩
abbrev main_while0b_cst_29 : Ref sig .tc := ⟨.hbm, 230, rfl⟩
abbrev main_while0b_v107 : Ref sig .tc := ⟨.hbm, 231, rfl⟩
abbrev main_while0b_v108 : Ref sig .tc := ⟨.hbm, 232, rfl⟩
abbrev main_while0b_c_30 : Ref sig .tc := ⟨.hbm, 233, rfl⟩
abbrev main_while0b_v109 : Ref sig .tc := ⟨.hbm, 234, rfl⟩
abbrev main_while0b_v110 : Ref sig .tc := ⟨.hbm, 235, rfl⟩
abbrev main_while0b_c_31 : Ref sig .tc := ⟨.hbm, 236, rfl⟩
abbrev main_while0b_v111 : Ref sig .tc := ⟨.hbm, 237, rfl⟩
abbrev main_while0b_v112 : Ref sig .tc := ⟨.hbm, 238, rfl⟩
abbrev main_while0b_v113 : Ref sig .tc := ⟨.hbm, 239, rfl⟩
abbrev main_while0b_v114 : Ref sig .tc := ⟨.hbm, 240, rfl⟩
abbrev main_while0b_v115 : Ref sig .tc := ⟨.hbm, 241, rfl⟩
abbrev main_while0b_v116 : Ref sig .tc := ⟨.hbm, 242, rfl⟩
abbrev main_while0b_v117 : Ref sig .tc := ⟨.hbm, 243, rfl⟩
abbrev main_while0b_v118 : Ref sig .tc := ⟨.hbm, 244, rfl⟩
abbrev main_while0b_v119 : Ref sig .tc := ⟨.hbm, 245, rfl⟩
abbrev main_while0b_v120 : Ref sig .tc := ⟨.hbm, 246, rfl⟩
abbrev main_while0b_v121 : Ref sig .tc := ⟨.hbm, 247, rfl⟩
abbrev main_while0b_v122 : Ref sig .tc := ⟨.hbm, 248, rfl⟩
abbrev main_while0b_c_32 : Ref sig .tc := ⟨.hbm, 249, rfl⟩
abbrev main_while0b_v123 : Ref sig .tc := ⟨.hbm, 250, rfl⟩
abbrev main_cst_14 : Ref sig .tc := ⟨.hbm, 251, rfl⟩
abbrev main_call10_v0 : Ref sig .tc := ⟨.hbm, 252, rfl⟩
abbrev main_call10_v1 : Ref sig .tc := ⟨.hbm, 253, rfl⟩
abbrev main_v95 : Ref sig .tc := ⟨.hbm, 254, rfl⟩
abbrev main_values_15 : Ref sig .tc := ⟨.hbm, 255, rfl⟩
abbrev main_indices_16 : Ref sig .tc := ⟨.hbm, 256, rfl⟩
abbrev main_call11_c : Ref sig .tc := ⟨.hbm, 257, rfl⟩
abbrev main_call11_v0 : Ref sig .tc := ⟨.hbm, 258, rfl⟩
abbrev main_call11_v1 : Ref sig .tc := ⟨.hbm, 259, rfl⟩
abbrev main_call11_c_0 : Ref sig .tc := ⟨.hbm, 260, rfl⟩
abbrev main_call11_v2 : Ref sig .tc := ⟨.hbm, 261, rfl⟩
abbrev main_call11_v3 : Ref sig .tc := ⟨.hbm, 262, rfl⟩
abbrev main_call11_v4 : Ref sig .tc := ⟨.hbm, 263, rfl⟩
abbrev main_call11_v5 : Ref sig .tc := ⟨.hbm, 264, rfl⟩
abbrev main_call11_c_1 : Ref sig .tc := ⟨.hbm, 265, rfl⟩
abbrev main_call11_c_2 : Ref sig .tc := ⟨.hbm, 266, rfl⟩
abbrev main_call11_v6 : Ref sig .tc := ⟨.hbm, 267, rfl⟩
abbrev main_call11_v7 : Ref sig .tc := ⟨.hbm, 268, rfl⟩
abbrev main_call11_v8 : Ref sig .tc := ⟨.hbm, 269, rfl⟩
abbrev main_call11_v9 : Ref sig .tc := ⟨.hbm, 270, rfl⟩
abbrev main_call11_v10 : Ref sig .tc := ⟨.hbm, 271, rfl⟩
abbrev main_call11_v11 : Ref sig .tc := ⟨.hbm, 272, rfl⟩
abbrev main_call11_c_3 : Ref sig .tc := ⟨.hbm, 273, rfl⟩
abbrev main_call11_v12 : Ref sig .tc := ⟨.hbm, 274, rfl⟩
abbrev main_call11_v13 : Ref sig .tc := ⟨.hbm, 275, rfl⟩
abbrev main_call11_v14 : Ref sig .tc := ⟨.hbm, 276, rfl⟩
abbrev main_call11_cst : Ref sig .tc := ⟨.hbm, 277, rfl⟩
abbrev main_call11_v15 : Ref sig .tc := ⟨.hbm, 278, rfl⟩
abbrev main_v96 : Ref sig .tc := ⟨.hbm, 279, rfl⟩

abbrev nD : Nat := 1
abbrev τ : Topo := Topo.v7x

variable {F : FTy → Type} [FloatOps F]

abbrev main_while0_count : Scf.Loop 32 := ⟨0#32, 2000#32, 1#32⟩
-- ==== Proof.KLoop.lean ====
/-
  The kernel's body: its loop as a partial function, the loop's label met by the number of trips to go,
  and the block the body leaves, from the blocks it reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop as a partial function -/

/-- The loop's test after a trip from `x`: did the trip change any entry? -/
def changed (D : FVec F S2048x2048 .f32) (f x : FVec F S1x2048 .f32) : BitVec 1 :=
  Scalar.cmpf .ogt (k0_pay2 D f x) (Scalar.ofBits .f32 0x00000000#32)

/-- The loop run for at most `n` trips from `x`: the value it returns, if it has stopped by then. -/
def runLoop (D : FVec F S2048x2048 .f32) (f : FVec F S1x2048 .f32) :
    ℕ → FVec F S1x2048 .f32 → Option (FVec F S1x2048 .f32)
  | 0, _ => none
  | n + 1, x => if changed D f x = 1#1 then runLoop D f n (k0_pay1 D f x) else some (k0_pay1 D f x)

/-- What the loop returns when it stops within `n` trips. -/
def loopVal (n : ℕ) (D : FVec F S2048x2048 .f32) (f : FVec F S1x2048 .f32) : FVec F S1x2048 .f32 :=
  (runLoop D f n f).getD f

/-- The loop stops within `n` trips for every strictly upper matrix the kernel can build. -/
def LoopEnds (F : FTy → Type) [FloatOps F] (n : ℕ) : Prop :=
  ∀ (a b c d e : FVec F S1x2048 .f32) (w : IVec S1x2048 1),
    (runLoop (k0_pay13 a b c d e) (k0_pay12 w) n (k0_pay12 w)).isSome = true

/-- What the loop's label owes its caller: it returns the pair of the final value and a cleared flag. -/
def loopSpec (y : FVec F S1x2048 .f32) : sWPT 𝕄 (FVec F S1x2048 .f32 × BitVec 1) :=
  do
    let r ← sWPT.arbitrary
    sWPT.assume (r.1 = y)
    pure r

theorem loopSpec_apply (y : FVec F S1x2048 .f32) (K : FVec F S1x2048 .f32 × BitVec 1 → sProp 𝕄) :
    loopSpec y K = iprop(∀ r : FVec F S1x2048 .f32 × BitVec 1, ⌜r.1 = y⌝ -∗ K r) := rfl

/-- A trip with the flag cleared returns what it was given. -/
theorem loop_stop (c : Dev nD) (E : Set ℕ) (D : FVec F S2048x2048 .f32) (f x : FVec F S1x2048 .f32) (b : BitVec 1)
    (hb : ¬ b = 1#1) (k : ℕ) : ∀ K, loopSpec x K
      ⊢ wp frame (wpE (defs₀ (F := F)) Variants.nat (c : Thread nD τ) (some k)) E
          (defs₀ (F := F) .tc 1 ⟨D, f, x, b⟩) K := by
  intro K
  rw [loopSpec_apply]
  show _ ⊢ wp frame (wpE (defs₀ (F := F)) Variants.nat (c : Thread nD τ) (some k)) E (cc0_while1 D f x b) K
  rw [cc0_while1_eq_skeleton]; unfold cc0_while1_skel
  simp only [hb, ↓reduceIte, Prog.pure_eq_ret]
  iintro H
  rw [wp_ret]; imodintro
  iapply H
  ipureintro; rfl

/-- The label meets its specification whenever the loop stops within the trips to go. -/
theorem loop_meets (c : Dev nD) (E : Set ℕ) (D : FVec F S2048x2048 .f32) (f : FVec F S1x2048 .f32) :
    ∀ (k : ℕ) (x y : FVec F S1x2048 .f32), runLoop D f k x = some y → ∀ K, loopSpec y K
      ⊢ wp frame (wpE (defs₀ (F := F)) Variants.nat (c : Thread nD τ) (some k)) E
          (defs₀ (F := F) .tc 1 ⟨D, f, x, 1#1⟩) K := by
  intro k
  induction k with
  | zero => intro x y h; simp [runLoop] at h
  | succ k ih =>
    intro x y h K
    rw [loopSpec_apply]
    show _ ⊢ wp frame (wpE (defs₀ (F := F)) Variants.nat (c : Thread nD τ) (some (k + 1))) E (cc0_while1 D f x 1#1) K
    rw [cc0_while1_eq_skeleton]; unfold cc0_while1_skel
    simp only [↓reduceIte, Prog.lift, Prog.bind_op, Prog.bind_ret, Prog.pure_eq_ret]
    rw [show Scalar.cmpf .ogt (k0_pay2 D f x) (Scalar.ofBits .f32 0x00000000#32) = changed D f x from rfl]
    have key : ∀ K, loopSpec y K
      ⊢ wp frame (wpE (defs₀ (F := F)) Variants.nat (c : Thread nD τ) (some k)) E
          (defs₀ (F := F) .tc 1 ⟨D, f, k0_pay1 D f x, changed D f x⟩) K := by
      simp only [runLoop] at h
      by_cases hc : changed D f x = 1#1
      · rw [if_pos hc] at h; rw [hc]; exact ih _ _ h
      · rw [if_neg hc, Option.some.injEq] at h; subst h
        exact loop_stop c E D f _ _ hc k
    iintro H
    iapply (wp_call_spec Variants.nat (c : Thread nD τ) (some (k + 1)) E (loopSpec y) k
      (fun u hu => by cases hu; exact Nat.lt_succ_self k) key)
    rw [loopSpec_apply]
    iintro %r %hr
    rw [wp_ret]; imodintro
    iapply H
    ipureintro; exact hr

/-! ## What the body writes -/

/-- Row `k` of the boxes' block. -/
abbrev rowOf0 : Rect S4x2048 := Rect.unit (s := S4x2048) ![0, 0] S1x2048.size inb_S4x2048_S1x2048_0_0
abbrev rowOf1 : Rect S4x2048 := Rect.unit (s := S4x2048) ![1, 0] S1x2048.size inb_S4x2048_S1x2048_1_0
abbrev rowOf2 : Rect S4x2048 := Rect.unit (s := S4x2048) ![2, 0] S1x2048.size inb_S4x2048_S1x2048_2_0
abbrev rowOf3 : Rect S4x2048 := Rect.unit (s := S4x2048) ![3, 0] S1x2048.size inb_S4x2048_S1x2048_3_0
/-- The whole block of scores, and the whole result block. -/
abbrev rectS : Rect S1x2048 := Rect.unit (s := S1x2048) ![0, 0] S1x2048.size inb_S1x2048_S1x2048_0_0
abbrev rectO : Rect S1024x8 := Rect.unit (s := S1024x8) ![0, 0] S1024x8.size inb_S1024x8_S1024x8_0_0

/-- The block the body computes from four coordinate rows and the scores. -/
def blockOf (n : ℕ) (a b c d s : Vec F S1x2048 .f32) : FVec F S1024x8 .f32 :=
  let D := k0_pay13 (k0_pay3 a) (k0_pay4 b) (k0_pay5 c) (k0_pay6 d) (k0_pay10 a b c d)
  let w := k0_pay11 a b c d s
  let keep := loopVal n D (k0_pay12 w)
  k0_pay15 (k0_pay3 a) (k0_pay4 b) (k0_pay5 c) (k0_pay6 d) (k0_pay9 a b c d s) (k0_pay12 w)
    (iota .tc S2048x2048 32 [0] iota_S2048x2048_d0_w32) (iota .tc S2048x2048 32 [1] iota_S2048x2048_d1_w32)
    keep (k0_pay14 w keep) (Scalar.ofBits .f32 0x3F800000#32)

/-- The result block from the boxes' and the scores' blocks. -/
def outVal (n : ℕ) (x0 : Vec F S4x2048 .f32) (x1 : Vec F S1x2048 .f32) : Vec F S1024x8 .f32 :=
  blockOf n (View.ld x0 rowOf0) (View.ld x0 rowOf1) (View.ld x0 rowOf2) (View.ld x0 rowOf3) (View.ld x1 rectS)

/-- The one store covers the block. -/
theorem cover_out (p0 : Vec F S1024x8 .f32) (y : S1024x8.Idx) :
    ∃ pc ∈ ([⟨rectO, p0⟩] : List (View.Piece (Elt F) S1024x8 .f32)), y ∈ pc.1.set :=
  View.cover_of_tiled [⟨rectO, p0⟩] S1024x8.size (by rfl) y

/-- A block stored whole holds the stored value. -/
theorem canon_out (p0 : Vec F S1024x8 .f32) :
    View.canon ([⟨rectO, p0⟩] : List (View.Piece (Elt F) S1024x8 .f32)) = p0 :=
  View.canon_unit_zero (funext fun a => by fin_cases a <;> rfl) _ _

set_option maxHeartbeats 1000000 in
/-- The body run on whole buffers. -/
theorem sound_kernel (n : ℕ) (hn : LoopEnds F n) (c : Dev nD) (arg0 : Memref sig .tc .vmem S4x2048 .f32) (harg0 : arg0.IsWhole)
    (arg1 : Memref sig .tc .vmem S1x2048 .f32) (harg1 : arg1.IsWhole) (arg2 : Memref sig .tc .vmem S1024x8 .f32) (harg2 : arg2.IsWhole)
    (x0 : Vec F S4x2048 .f32) (x1 : Vec F S1x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (outVal n x0 x1)) -∗ K ⟨⟩))
      ⊢ wp frame (wpE (defs₀ (F := F)) Variants.nat c none) Set.univ (cc0__nms_kernel arg0 harg0 arg1 harg1 arg2 harg2) K := by
  simp only [cc0__nms_kernel_eq_skeleton]; unfold cc0__nms_kernel_skel
  unfold owns
  iintro ⟨⟨%f0, %hf0, H0⟩, ⟨%f1, %hf1, H1⟩, ⟨%d2, %f2, -, H2⟩, Hk⟩
  subst hf0 hf1
  simp only [k0_part1_eq_skeleton, k0_part2_eq_skeleton, k0_part3_eq_skeleton]
  unfold k0_part1_skel k0_part2_skel k0_part3_skel
  simp only [Prog.lift, Prog.bind_op, Prog.bind_ret, Prog.pure_eq_ret]
  sl_exec
  obtain ⟨y, hy⟩ := Option.isSome_iff_exists.mp (hn (k0_pay3 (View.ld (View.read (Elt F) arg0.view f0) rowOf0))
    (k0_pay4 (View.ld (View.read (Elt F) arg0.view f0) rowOf1)) (k0_pay5 (View.ld (View.read (Elt F) arg0.view f0) rowOf2))
    (k0_pay6 (View.ld (View.read (Elt F) arg0.view f0) rowOf3))
    (k0_pay10 (View.ld (View.read (Elt F) arg0.view f0) rowOf0) (View.ld (View.read (Elt F) arg0.view f0) rowOf1)
      (View.ld (View.read (Elt F) arg0.view f0) rowOf2) (View.ld (View.read (Elt F) arg0.view f0) rowOf3))
    (k0_pay11 (View.ld (View.read (Elt F) arg0.view f0) rowOf0) (View.ld (View.read (Elt F) arg0.view f0) rowOf1)
      (View.ld (View.read (Elt F) arg0.view f0) rowOf2) (View.ld (View.read (Elt F) arg0.view f0) rowOf3)
      (View.ld (View.read (Elt F) arg1.view f1) rectS)))
  iapply (wp_call_spec Variants.nat (c : Thread nD τ) none Set.univ (loopSpec y) n (fun u hu => nomatch hu)
    (loop_meets c Set.univ _ _ n _ y hy))
  rw [loopSpec_apply]
  iintro %r %hr
  subst hr
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_out _)).trans ?_
  rw [canon_out]
  unfold outVal blockOf loopVal
  simp only [hy, Option.getD_some]
  rfl

end Cert.Proof.KRun

end
-- ==== Proof.KRun.lean ====
/-
  The kernel's program run: the host lines before the region, the region, the host lines after it; what the result
  buffer of the region holds, and the arguments and counters at the end.
-/
module

public import proofs.«01_k».proof.Proof.KLoop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (n : ℕ) (m : (ℓ : Loc nD τ sig) → Buf (Elt F) ℓ) (ρ : Dev nD → PrngReg)
/-! ## @main around the region -/

/-- The contents of the buffers when the region starts: the host lines before it have run. -/
abbrev V0 (c : Dev nD) : Valuation τ sig (Elt F) := StableHlo.after (List.flatten [hostOps0, hostOps0_1, hostOps0_2, hostOps0_3, hostOps0_4, hostOps0_5, hostOps0_6]) (fun b => m (c, b))
/-- The same, by the buffer's name. -/
abbrev V (c : Dev nD) (b : Ref sig .tc) : Buf (Elt F) ((c : Thread nD τ).loc b) := V0 m c (Proc.devRef .tc b)

/-- No host line takes a new buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host lines, the region, and the host lines after it. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch only buffers that are there. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The lines after the region leave the region's arrays alone. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The lines before the region leave the boxes as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The lines before the region leave the scores as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- At the end of the program the boxes are as given. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- At the end of the program the scores are as given. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- The part of a window's array that a step reads. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The body finds the coordinates' block in the first buffer. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds the scores' block in the second buffer. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that leaves the untouched buffers alone leaves the arguments alone. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c))⟩) h

/-! ## The pipeline's proof data -/

/-- What each window's buffer holds after the body: the two inputs as read, and the computed block. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => outVal n (iblk m c 0 t) (iblk m c 1 t)
  Φ _ := Pipeline.ΦA spec0 c
  q _ := fullShare
  owed _ := 0

theorem A_eq (c : Dev nD) (w : Fin (cfg0 (F := F)).W) : (dats n m 0 c).A w = V m c (Pipeline.arrRef spec0 w) := by
  dsimp only [dats]

theorem after0_0 (c : Dev nD) (t : Fin (cfg0 (F := F)).N) : (dats n m 0 c).after 0 t = iblk m c 0 t := by dsimp only [dats]; rfl
theorem after0_1 (c : Dev nD) (t : Fin (cfg0 (F := F)).N) : (dats n m 0 c).after 1 t = iblk m c 1 t := by dsimp only [dats]; rfl
theorem after0_2 (c : Dev nD) (t : Fin (cfg0 (F := F)).N) : (dats n m 0 c).after 2 t = outVal n (iblk m c 0 t) (iblk m c 1 t) := by dsimp only [dats]; rfl

theorem before0_0 (c : Dev nD) (t : Fin (cfg0 (F := F)).N) (d) : (dats n m 0 c).before 0 t d = iblk m c 0 t :=
  before0_0_of m (dats n m 0 c) (A_eq n m c 0) (after0_0 n m c) t d
theorem before0_1 (c : Dev nD) (t : Fin (cfg0 (F := F)).N) (d) : (dats n m 0 c).before 1 t d = iblk m c 1 t :=
  before0_1_of m (dats n m 0 c) (A_eq n m c 1) (after0_1 n m c) t d

/-! ## The body obligation, at a generic point -/

/-- What the body may assume. -/
def bodyPre (c : Dev nD) (t : Fin (cfg0 (F := F)).N) : sProp 𝕄 :=
  iprop((dats n m 0 c).Φ t.castSucc ∗ (dats n m 0 c).owesAt () t.castSucc
    ∗ (∃ d, owns (c : Thread nD τ) (st0_0 t) fullShare ((dats n m 0 c).before 0 t d))
    ∗ (∃ d, owns (c : Thread nD τ) (st0_1 t) fullShare ((dats n m 0 c).before 1 t d))
    ∗ (∃ d, owns (c : Thread nD τ) (st0_2 t) fullShare ((dats n m 0 c).before 2 t d)))

/-- What the body must leave. -/
def bodyPost (c : Dev nD) (t : Fin (cfg0 (F := F)).N) : sProp 𝕄 :=
  iprop((dats n m 0 c).Φ t.succ ∗ (dats n m 0 c).owesAt () t.succ
    ∗ owns (c : Thread nD τ) (st0_0 t) fullShare ((dats n m 0 c).after 0 t)
    ∗ owns (c : Thread nD τ) (st0_1 t) fullShare ((dats n m 0 c).after 1 t)
    ∗ owns (c : Thread nD τ) (st0_2 t) fullShare ((dats n m 0 c).after 2 t))

/-- The body meets this, if its loop ends within `n` trips. -/
theorem sound_body (hn : LoopEnds F n) (c : Dev nD) (t : Fin (cfg0 (F := F)).N) :
    bodyPre n m c t ⊢ wp frame (wpE (defs₀ (F := F)) Variants.nat c none) Set.univ (bodyAt0 t) (fun _ => bodyPost n m c t) := by
  unfold bodyPre bodyPost bodyAt0
  simp only [before0_0, before0_1]
  rw [show (dats n m 0 c).Φ t.succ = (dats n m 0 c).Φ t.castSucc from rfl,
    show (dats n m 0 c).owesAt () t.succ = (dats n m 0 c).owesAt () t.castSucc from rfl,
    after0_0, after0_1, after0_2]
  iintro ⟨HΦ, Ho, ⟨%d0, H0⟩, ⟨%d1, H1⟩, ⟨%d2, H2⟩⟩
  iapply (sound_kernel n hn c _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin (cfg0 (F := F)).N) :
    defs₀ (F := F) .tc cfg0.body (cfg0.bodyArgs t ((cfg0 (F := F)).slots t)) = bodyAt0 t := by
  unfold defs₀; rw [Defs.onTc_tc]

theorem body_obligation (hn : LoopEnds F n) (c : Dev nD) : BodyObligation (dats (F := F) n m 0 c) (defs₀ (F := F)) Variants.nat () Set.univ := fun t => by
  rw [bigSep_W0, bigSep_W0, defs₀_row]
  exact triple_restated (sound_body n m hn c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
theorem run_main_quiescent (hn : LoopEnds F n) : θ_run defs (onTc (τ := τ) (main (F := F))) (s₀ m ρ) (fun r => (Pipeline.FramePost (cfgs (F := F)) (dats n m) 0 (Pipeline.afterTail₀ (cfgs (F := F)) (dats n m) 0 (V0 m) [hostOps1])) r ∧ r.2.sem = fun _ => 0) :=
  Pipeline.θ_run_frame_around (Q' := _) (cfgs (F := F)) (dats n m) (0 : Fin 1) launch0 defs₀ Variants.nat m ρ main
    (hbody := fun c => (body_obligation n m hn c).loose) (hshare := fun c => (dats n m 0 c).share_full fun _ => rfl)
    (howed := fun _ _ => rfl) (V₀ := V0 m) (opss := [hostOps1]) (hsub := sfx_sub) (hfresh := sfx_fresh) (hkeep := sfx_keeps)
    (hmain := hmain m Variants.nat) (hA := A_eq n m) (hΦ := fun _ _ => rfl)

/-- The whole program's run, if the loop ends within `n` trips. -/
theorem run_main (hn : LoopEnds F n) : θ_run defs (onTc (τ := τ) (main (F := F))) (s₀ m ρ) (Pipeline.FramePost (cfgs (F := F)) (dats n m) 0 (Pipeline.afterTail₀ (cfgs (F := F)) (dats n m) 0 (V0 m) [hostOps1])) :=
  (θ_run defs _ _).mono (fun _ h => h.1) (run_main_quiescent n m ρ hn)

/-- The program leaves its arguments as they were. -/
theorem unchanged (hn : LoopEnds F n) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats n m) (A_eq n m) (run_main n m ρ hn)

/-- The program ends with its arguments as they were and its semaphores at zero. -/
theorem frame (hn : LoopEnds F n) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged n m ρ hn) ((θ_run defs _ _).mono (fun _ h => h.2) (run_main_quiescent n m ρ hn))

end Cert.Proof.KRun

end
-- ==== Proof.Greedy.lean ====
/-
  Greedy suppression over positions `0 … N - 1`, as plain mathematics: the set kept, the step whose fixed
  point it is, and how many steps reach it.
-/
module

public import Idealize.ShloMosaic.Lib.ValueIdx

@[expose] public section

namespace Cert.Proof.Greedy

variable {N : ℕ}

/-- Position `i` is kept when it is eligible and no kept position before it suppresses it. -/
def kept (sup : Fin N → Fin N → Prop) (f : Fin N → Prop) (i : Fin N) : Prop :=
  f i ∧ ∀ j : Fin N, j < i → kept sup f j → ¬ sup j i
termination_by i.val

variable (sup : Fin N → Fin N → Prop) (f : Fin N → Prop)

theorem kept_iff (i : Fin N) : kept sup f i ↔ f i ∧ ∀ j : Fin N, j < i → kept sup f j → ¬ sup j i := by
  rw [kept]

/-- One round: the eligible positions that no member of `x` before them suppresses. -/
def round (x : Fin N → Prop) (i : Fin N) : Prop := f i ∧ ¬ ∃ j, x j ∧ sup j i ∧ j < i

/-- The kept set does not change under a round. -/
theorem round_kept : round sup f (kept sup f) = kept sup f := by
  funext i
  refine propext ?_
  rw [kept_iff]
  refine and_congr_right fun _ => ⟨fun h j hj hk hs => h ⟨j, hk, hs, hj⟩, ?_⟩
  rintro h ⟨j, hk, hs, hj⟩
  exact h j hj hk hs

/-- A set that satisfies the recursion of the kept set is the kept set. -/
theorem eq_kept (x : Fin N → Prop) (hx : ∀ i, x i ↔ f i ∧ ∀ j : Fin N, j < i → x j → ¬ sup j i) : x = kept sup f := by
  have key : ∀ n : ℕ, ∀ i : Fin N, i.val = n → (x i ↔ kept sup f i) := by
    intro n
    induction n using Nat.strong_induction_on with
    | _ n ih =>
      intro i hi
      rw [hx, kept_iff]
      refine and_congr_right fun _ => forall_congr' fun j => ?_
      refine forall_congr' fun hj => ?_
      rw [ih j.val (by subst hi; exact hj) j rfl]
  funext i
  exact propext (key i.val i rfl)

/-- A set that a round leaves alone is the kept set. -/
theorem eq_kept_of_round (x : Fin N → Prop) (hx : round sup f x = x) : x = kept sup f := by
  refine eq_kept sup f x fun i => ?_
  have hi : x i ↔ f i ∧ ¬ ∃ j, x j ∧ sup j i ∧ j < i := (iff_of_eq (congrFun hx i)).symm
  rw [hi]
  refine and_congr_right fun _ => ⟨fun h j hj hxj hs => h ⟨j, hxj, hs, hj⟩, ?_⟩
  rintro h ⟨j, hxj, hs, hj⟩
  exact h j hj hxj hs

/-- Each round settles at least one position more. -/
theorem round_agree (x : Fin N → Prop) (k : ℕ) (h : ∀ i : Fin N, i.val < k → (x i ↔ kept sup f i)) (i : Fin N)
    (hi : i.val < k + 1) : round sup f x i ↔ kept sup f i := by
  rw [← round_kept]
  refine and_congr_right fun _ => not_congr (exists_congr fun j => ?_)
  constructor
  · rintro ⟨h1, h2, h3⟩; exact ⟨(h j (by have : j.val < i.val := h3; omega)).1 h1, h2, h3⟩
  · rintro ⟨h1, h2, h3⟩; exact ⟨(h j (by have : j.val < i.val := h3; omega)).2 h1, h2, h3⟩

end Cert.Proof.Greedy
-- ==== Proof.KEnds.lean ====
/-
  The kernel's loop over the extended reals: its rows are rows of zeros and ones, its matrix is a matrix of
  zeros and ones, one trip is one round of greedy suppression, and so the loop ends with the kept set.
-/
module

public import proofs.«01_k».proof.Proof.KLoop
public import proofs.«01_k».proof.Proof.Greedy
public import Idealize.ShloMosaic.Lib.Pointwise
public import Idealize.ShloMosaic.Lib.IdealHost

@[expose] public section

set_option maxRecDepth 16384

noncomputable section

namespace Cert.Proof.KRun

open Cert.KernelIdeal Cert.KernelIdeal.Gen
open Idealize.ShloMosaic
open Classical

/-! ## Zeros and ones -/

/-- One where the proposition holds, zero elsewhere. -/
def b01 (p : Prop) : EReal := if p then 1 else 0

theorem b01_true {p : Prop} (h : p) : b01 p = 1 := if_pos h
theorem b01_false {p : Prop} (h : ¬ p) : b01 p = 0 := if_neg h

theorem b01_congr {p q : Prop} (h : p ↔ q) : b01 p = b01 q := by rw [propext h]

theorem b01_mul (p q : Prop) : b01 p * b01 q = b01 (p ∧ q) := by
  by_cases hp : p <;> by_cases hq : q <;> simp [b01, hp, hq]

theorem b01_inj {p q : Prop} (h : b01 p = b01 q) : p ↔ q := by
  by_cases hp : p <;> by_cases hq : q <;> simp [b01, hp, hq] at h ⊢

/-- A sum of zeros and ones counts the ones. -/
theorem sum_b01 {ι : Type} [Fintype ι] (p : ι → Prop) :
    ∑ i, b01 (p i) = (((Finset.univ.filter p).card : ℕ) : EReal) := by
  unfold b01
  rw [Finset.sum_boole]

/-- Picking one entry out by a sum against a row with a single one. -/
theorem sum_pick {ι : Type} [Fintype ι] (i : ι) (p : ι → Prop) (hp : ∀ x, p x ↔ i = x) (v : ι → EReal) :
    ∑ x, b01 (p x) * v x = v i := by
  rw [Finset.sum_eq_single i]
  · rw [b01_true ((hp i).2 rfl), one_mul]
  · intro x _ hx
    rw [b01_false (fun h => hx ((hp x).1 h).symm), zero_mul]
  · intro h; exact absurd (Finset.mem_univ i) h

/-- A bit widened and converted is one or zero. -/
theorem sitofp_bit (w : BitVec 1) :
    (FloatOps.sitofp FTy.f32 (BitVec.setWidth 32 w) : Ideal .f32) = b01 (w = 1#1) := by
  rcases BitVec.eq_zero_or_eq_one w with h | h
  · subst h
    rw [b01_false (by decide)]
    show (((BitVec.setWidth 32 0#1).toInt : ℝ) : EReal) = 0
    rw [show (BitVec.setWidth 32 0#1).toInt = 0 from by decide]; simp
  · subst h
    rw [b01_true rfl]
    show (((BitVec.setWidth 32 1#1).toInt : ℝ) : EReal) = 1
    rw [show (BitVec.setWidth 32 1#1).toInt = 1 from by decide]; simp

theorem half_f32 : Ideal.ofBits .f32 0x3F000000#32 = (((1 : ℝ) / 2 : ℝ) : EReal) := by
  simp [Ideal.ofBits, Ideal.ieee, -EReal.coe_mul]; norm_num

/-- A count is above one half when it is not zero. -/
theorem half_lt_natCast (n : ℕ) : Ideal.ofBits .f32 0x3F000000#32 < ((n : ℕ) : EReal) ↔ 0 < n := by
  rw [half_f32, show ((n : ℕ) : EReal) = (((n : ℕ) : ℝ) : EReal) from rfl, EReal.coe_lt_coe_iff]
  constructor
  · intro h
    rcases Nat.eq_zero_or_pos n with h0 | h0
    · subst h0; norm_num at h
    · exact h0
  · intro h
    have : (1 : ℝ) ≤ (n : ℝ) := by exact_mod_cast h
    linarith

/-- A sum of zeros and ones is above one half when there is a one. -/
theorem half_lt_sum {ι : Type} [Fintype ι] (p : ι → Prop) :
    Ideal.ofBits .f32 0x3F000000#32 < ∑ i, b01 (p i) ↔ ∃ i, p i := by
  rw [sum_b01, half_lt_natCast, Finset.card_pos, Finset.filter_nonempty_iff]
  simp

theorem ofBool_decide_eq_one (p : Prop) [Decidable p] : BitVec.ofBool (decide p) = 1#1 ↔ p := by
  by_cases h : p <;> simp [h]

theorem cmpi_eq_iff {n : ℕ} (hn : n ≤ 2 ^ 31) (i j : Fin n) :
    IntOp.cmpi .eq (BitVec.ofNat 32 i.val) (BitVec.ofNat 32 j.val) = 1#1 ↔ i = j := by
  have hi := i.isLt
  have hj := j.isLt
  show BitVec.ofBool (BitVec.ofNat 32 i.val == BitVec.ofNat 32 j.val) = 1#1 ↔ _
  rw [show (BitVec.ofNat 32 i.val == BitVec.ofNat 32 j.val) = decide (i = j) from ?_]
  · exact ofBool_decide_eq_one _
  · rw [Bool.eq_iff_iff, beq_iff_eq, decide_eq_true_eq]
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl

theorem toInt_ofNat_small {k : ℕ} (hk : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

theorem cmpi_slt_iff {n : ℕ} (hn : n ≤ 2 ^ 31) (i j : Fin n) :
    IntOp.cmpi .slt (BitVec.ofNat 32 i.val) (BitVec.ofNat 32 j.val) = 1#1 ↔ i < j := by
  have hi := i.isLt
  have hj := j.isLt
  show BitVec.ofBool ((BitVec.ofNat 32 i.val).slt (BitVec.ofNat 32 j.val)) = 1#1 ↔ _
  rw [show (BitVec.ofNat 32 i.val).slt (BitVec.ofNat 32 j.val) = decide (i < j) from ?_]
  · exact ofBool_decide_eq_one _
  · rw [Bool.eq_iff_iff, BitVec.slt_iff_toInt_lt, decide_eq_true_eq, toInt_ofNat_small (by omega), toInt_ofNat_small (by omega)]
    exact Int.ofNat_lt

theorem andi_eq_one (a b : BitVec 1) : IntOp.andi a b = 1#1 ↔ a = 1#1 ∧ b = 1#1 := by
  revert a b; decide

/-! ## The overlap test -/

/-- The area two boxes share, the sides of the shared box cut off at zero. -/
def shared (p0 p1 p2 p3 q0 q1 q2 q3 : EReal) : EReal :=
  max (min p2 q2 - max p0 q0) 0 * max (min p3 q3 - max p1 q1) 0

/-- The overlap of two boxes (the shared area over the area of the union, as both programs form it) is above 0.7. -/
def close (p0 p1 p2 p3 q0 q1 q2 q3 sp sq : EReal) : Prop :=
  Ideal.ofBits .f32 0x3F333333#32 <
    Ideal.div (shared p0 p1 p2 p3 q0 q1 q2 q3)
      (sp + sq - shared p0 p1 p2 p3 q0 q1 q2 q3 + Ideal.ofBits .f32 0x3089705F#32)

/-- A row of zeros and ones. -/
def row (x : Fin 2048 → Prop) : FVec Ideal S1x2048 .f32 := fun j => b01 (x (j 1))

/-- A matrix of zeros and ones: `sup i j` above the diagonal. -/
def mat (sup : Fin 2048 → Fin 2048 → Prop) : FVec Ideal S2048x2048 .f32 := fun j => b01 (sup (j 0) (j 1) ∧ (j 0) < (j 1))

theorem row_apply (x : Fin 2048 → Prop) (j : Fin 2048) : row x (ix2 0 j) = b01 (x j) := rfl

theorem mat_apply (sup : Fin 2048 → Fin 2048 → Prop) (i j : Fin 2048) : mat sup (ix2 i j) = b01 (sup i j ∧ i < j) := rfl

theorem idx_row (j : S1x2048.Idx) : j = ix2 (0 : Fin 1) (j 1) := by
  funext a; match a with | ⟨0, _⟩ => exact Subsingleton.elim (α := Fin 1) _ _ | ⟨1, _⟩ => rfl

theorem row_ext (u v : FVec Ideal S1x2048 .f32) (h : ∀ j : Fin 2048, u (ix2 0 j) = v (ix2 0 j)) : u = v := by
  funext j
  rw [idx_row j]
  exact h (j 1)

/-- Which positions' boxes, read from four rows, overlap too much. -/
def closeRows (a b c d e : FVec Ideal S1x2048 .f32) (i j : Fin 2048) : Prop :=
  close (a (ix2 0 i)) (b (ix2 0 i)) (c (ix2 0 i)) (d (ix2 0 i)) (a (ix2 0 j)) (b (ix2 0 j)) (c (ix2 0 j)) (d (ix2 0 j))
    ((c (ix2 0 i) - a (ix2 0 i)) * (d (ix2 0 i) - b (ix2 0 i))) (e (ix2 0 j))

/-- The loop's matrix is the matrix of overlaps above the diagonal. -/
theorem pay13_eq (a b c d e : FVec Ideal S1x2048 .f32) : k0_pay13 a b c d e = mat (closeRows a b c d e) := by
  suffices h : ∀ i j : Fin 2048, k0_pay13 a b c d e (ix2 i j) = mat (closeRows a b c d e) (ix2 i j) from
    funext fun j => (congrArg _ (eq_ix2 j)).trans ((h (j 0) (j 1)).trans (congrArg _ (eq_ix2 j)).symm)
  intro i j
  rw [mat_apply]
  pointwise [k0_pay13]
  simp only [sitofp_bit]
  simp only [sum_pick i _ (fun x => cmpi_eq_iff (n := 2048) (by norm_num) i x)]
  refine b01_congr ?_
  rw [andi_eq_one, cmpi_slt_iff (n := 2048) (by norm_num)]
  refine and_congr_left' ?_
  exact ofBool_decide_eq_one _

/-- The loop's starting row: the eligible positions. -/
theorem pay12_eq (w : IVec S1x2048 1) : (k0_pay12 w : FVec Ideal S1x2048 .f32) = row fun j => w (ix2 0 j) = 1#1 := by
  refine row_ext _ _ fun j => ?_
  rw [row_apply]
  pointwise [k0_pay12]
  exact sitofp_bit _

/-- One trip is one round. -/
theorem pay1_eq (sup : Fin 2048 → Fin 2048 → Prop) (f x : Fin 2048 → Prop) :
    k0_pay1 (mat sup) (row f) (row x) = row (Greedy.round sup f x) := by
  refine row_ext _ _ fun j => ?_
  rw [row_apply]
  pointwise [k0_pay1]
  simp only [row_apply, mat_apply, b01_mul, half_lt_sum]
  by_cases h : ∃ k, x k ∧ sup k j ∧ k < j
  · rw [if_pos h, b01_false (fun hr => hr.2 h)]
  · rw [if_neg h]
    exact b01_congr ⟨fun hf => ⟨hf, h⟩, fun hr => hr.1⟩

/-- A fold of `max` from the least element is above a bound when an entry is. -/
theorem lt_fold_max {ι : Type} (s : Finset ι) (g : ι → EReal) (b c : EReal) :
    c < s.fold max b g ↔ c < b ∨ ∃ x ∈ s, c < g x := Finset.lt_fold_max c

/-- The loop's test: did a round change the set? -/
theorem changed_iff (sup : Fin 2048 → Fin 2048 → Prop) (f x : Fin 2048 → Prop) :
    changed (mat sup) (row f) (row x) = 1#1 ↔ Greedy.round sup f x ≠ x := by
  have h2 : k0_pay2 (mat sup) (row f) (row x)
      = Finset.fold max (Ideal.ofBits FTy.f32 4286578688#32)
          (fun y : Fin 1 × Fin 2048 => if row (Greedy.round sup f x) (ix2 0 y.2) ≠ row x (ix2 0 y.2) then (1 : EReal) else 0)
          Finset.univ := by
    unfold k0_pay2
    pointwise
    rw [pay1_eq]
  have h3 : changed (mat sup) (row f) (row x)
      = BitVec.ofBool (decide (Ideal.ofBits .f32 0x00000000#32 < k0_pay2 (mat sup) (row f) (row x))) := by
    unfold changed
    generalize k0_pay2 (mat sup) (row f) (row x) = v
    rfl
  rw [h3, ofBool_decide_eq_one, h2, lt_fold_max, Ideal.ofBits_zero_f32]
  constructor
  · rintro (h | ⟨y, _, hy⟩)
    · exact absurd h (by simp [Ideal.ofBits, Ideal.ieee])
    · intro he
      rw [he] at hy
      simp at hy
  · intro hne
    right
    by_contra hall
    apply hne
    funext j
    refine propext ?_
    by_contra hj
    apply hall
    refine ⟨(0, j), Finset.mem_univ _, ?_⟩
    rw [if_pos]
    · exact zero_lt_one
    · intro he
      exact hj (b01_inj he)

/-- The loop, started with as many trips to go as there are unsettled positions and one more, ends at the kept set. -/
theorem runLoop_eq (sup : Fin 2048 → Fin 2048 → Prop) (f : Fin 2048 → Prop) :
    ∀ (n k : ℕ) (x : Fin 2048 → Prop), 2049 ≤ n + k → (∀ i : Fin 2048, i.val < k → (x i ↔ Greedy.kept sup f i)) → 0 < n →
      runLoop (mat sup) (row f) n (row x) = some (row (Greedy.kept sup f)) := by
  intro n
  induction n with
  | zero => intro k x _ _ h; exact absurd h (lt_irrefl 0)
  | succ n ih =>
    intro k x hk hx _
    unfold runLoop
    rw [pay1_eq]
    by_cases hc : Greedy.round sup f x = x
    · rw [if_neg (fun h => (changed_iff sup f x).1 h hc), hc, Greedy.eq_kept_of_round sup f x hc]
    · rw [if_pos ((changed_iff sup f x).2 hc)]
      refine ih (k + 1) _ (by omega) (fun i hi => Greedy.round_agree sup f x k hx i hi) ?_
      rcases Nat.eq_zero_or_pos n with h0 | h0
      · exfalso
        apply hc
        have hxk : x = Greedy.kept sup f := funext fun i => propext (hx i (by have := i.isLt; omega))
        rw [hxk]
        exact Greedy.round_kept sup f
      · exact h0

/-- The loop ends. -/
theorem loopEnds : LoopEnds Ideal 2049 := by
  intro a b c d e w
  rw [pay13_eq, pay12_eq, runLoop_eq _ _ 2049 0 _ (by norm_num) (fun i hi => absurd hi (Nat.not_lt_zero _)) (by norm_num)]
  rfl

/-- What it ends with. -/
theorem loopVal_eq (sup : Fin 2048 → Fin 2048 → Prop) (f : Fin 2048 → Prop) :
    loopVal 2049 (mat sup) (row f) = row (Greedy.kept sup f) := by
  unfold loopVal
  rw [runLoop_eq _ _ 2049 0 _ (by norm_num) (fun i hi => absurd hi (Nat.not_lt_zero _)) (by norm_num)]
  rfl

end Cert.Proof.KRun
-- ==== Proof.RRun.lean ====
/-
  The reference's program run: which buffers it writes, and that it leaves its arguments alone.
-/
module

public import proofs.«01_k».proof.Proof.Gen.ReferenceIdeal.Run
public import Idealize.ShloMosaic.Lib.Quiescent
public import Idealize.ShloMosaic.PureOps.Ideal

@[expose] public section

set_option maxRecDepth 16384

noncomputable section

/-! # What the reference program leaves in its buffers

The reference is a list of stretches of host operations, one loop of 2000 trips, and a last few stretches.  Here each
stretch is read once, from any contents, as a function of the buffers it reads. -/

namespace Cert.Proof.RRun

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL.Sem

/-! ## The arguments are never written -/

section
variable {F : FTy → Type} [FloatOps F]

abbrev post19_W : List (Ref sig .tc) := [main_cst_14]
theorem post19_writes : (hostOps0_19 : List (HloOp τ sig (Elt F))).Forall fun op => op.writes ⊆ (post19_W.map (Proc.devRef (τ := τ) .tc)).toFinset :=
  StableHlo.forall_writes_sub_of_map rfl
abbrev post20_W : List (Ref sig .tc) := [main_call10_v0, main_call10_v1, main_v95]
theorem post20_writes : (hostOps0_20 : List (HloOp τ sig (Elt F))).Forall fun op => op.writes ⊆ (post20_W.map (Proc.devRef (τ := τ) .tc)).toFinset :=
  StableHlo.forall_writes_sub_of_map rfl
abbrev post21_W : List (Ref sig .tc) := [main_values_15, main_indices_16]
theorem post21_writes : (hostOps0_21 : List (HloOp τ sig (Elt F))).Forall fun op => op.writes ⊆ (post21_W.map (Proc.devRef (τ := τ) .tc)).toFinset :=
  StableHlo.forall_writes_sub_of_map rfl
abbrev post22_W : List (Ref sig .tc) := [main_call11_c, main_call11_v0, main_call11_v1, main_call11_c_0, main_call11_v2,
  main_call11_v3, main_call11_v4, main_call11_v5, main_call11_c_1, main_call11_c_2, main_call11_v6, main_call11_v7, main_call11_v8,
  main_call11_v9, main_call11_v10, main_call11_v11, main_call11_c_3, main_call11_v12, main_call11_v13, main_call11_v14,
  main_call11_cst, main_call11_v15, main_v96]
theorem post22_writes : (hostOps0_22 : List (HloOp τ sig (Elt F))).Forall fun op => op.writes ⊆ (post22_W.map (Proc.devRef (τ := τ) .tc)).toFinset :=
  StableHlo.forall_writes_sub_of_map rfl

/-- Every buffer the program writes outside the loop's body and condition, before the loop. -/
abbrev pre_W : List (Ref sig .tc) := hostOps0_W ++ hostOps0_1_W ++ hostOps0_2_W ++ hostOps0_3_W ++ hostOps0_4_W ++ hostOps0_5_W ++
  hostOps0_6_W ++ hostOps0_7_W ++ hostOps0_8_W ++ hostOps0_9_W ++ hostOps0_10_W ++ hostOps0_11_W ++ hostOps0_12_W ++
  hostOps0_13_W ++ hostOps0_14_W ++ hostOps0_15_W ++ hostOps0_16_W ++ hostOps0_17_W ++ hostOps0_18_W

/-- A buffer that no stretch before the loop writes keeps its contents. -/
theorem pre_keep (V : Valuation τ sig (Elt F)) (r : Ref sig .tc) (h : r ∉ pre_W) :
    afterL preI V (Proc.devRef .tc r) = V (Proc.devRef .tc r) := by
  simp only [pre_W, List.mem_append, not_or] at h
  obtain ⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩ := h
  simp only [preI, afterL_cons, afterL_nil]
  rw [after_of_writes_sub hostOps0_18 _ hostOps0_18_writes h18, after_of_writes_sub hostOps0_17 _ hostOps0_17_writes h17,
    after_of_writes_sub hostOps0_16 _ hostOps0_16_writes h16, after_of_writes_sub hostOps0_15 _ hostOps0_15_writes h15,
    after_of_writes_sub hostOps0_14 _ hostOps0_14_writes h14, after_of_writes_sub hostOps0_13 _ hostOps0_13_writes h13,
    after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

variable (m : (ℓ : Loc nD τ sig) → Buf (Elt F) ℓ)

/-- A buffer that neither the condition nor the body writes keeps its contents through any number of trips. -/
theorem atK_keep (r : Ref sig .tc) (hc : r ∉ condOps_W) (hb : r ∉ while0Ops0_W) (c : Dev nD) :
    ∀ k, atK m k c (Proc.devRef .tc r) = entryContents preI m c (Proc.devRef .tc r)
  | 0 => rfl
  | k + 1 => by
    change after while0Ops0 (after condOps (atK m k c)) (Proc.devRef .tc r) = _
    rw [after_of_writes_sub while0Ops0 _ while0Ops0_writes hb, after_of_writes_sub condOps _ condOps_writes hc, atK_keep r hc hb c k]

/-- A buffer that nothing writes ends as it began. -/
theorem final_keep (r : Ref sig .tc) (h : r ∉ pre_W) (hc : r ∉ condOps_W) (hb : r ∉ while0Ops0_W)
    (h19 : r ∉ post19_W) (h20 : r ∉ post20_W) (h21 : r ∉ post21_W) (h22 : r ∉ post22_W) (c : Dev nD) :
    finalContents condOps preI bodyI postI 2000 m c (Proc.devRef .tc r) = m (c.tc.loc r) := by
  change after hostOps0_22 (after hostOps0_21 (after hostOps0_20 (after hostOps0_19 (after condOps (atK m 2000 c))))) (Proc.devRef .tc r) = _
  rw [after_of_writes_sub hostOps0_22 _ post22_writes h22, after_of_writes_sub hostOps0_21 _ post21_writes h21,
    after_of_writes_sub hostOps0_20 _ post20_writes h20, after_of_writes_sub hostOps0_19 _ post19_writes h19,
    after_of_writes_sub condOps _ condOps_writes hc, atK_keep m r hc hb c]
  exact pre_keep (launchContents m c) r h

/-- The reference leaves its arguments as they were, and its semaphores at zero. -/
theorem frame (ρ : Dev nD → PrngReg) :
    θ_run (defs (F := F)) (onTc (τ := τ) (main (F := F))) ⟨m, fun _ => 0, ρ⟩
      (fun r => (∀ c : Dev nD, r.2.mem (c.tc.loc main_arg0) = m (c.tc.loc main_arg0)
        ∧ r.2.mem (c.tc.loc main_arg1) = m (c.tc.loc main_arg1)) ∧ r.2.sem = fun _ => 0) :=
  (θ_run defs _ _).mono (fun r h => ⟨fun c =>
    ⟨(h c main_arg0 rfl).trans (final_keep m main_arg0 (by decide +kernel) (by decide +kernel) (by decide +kernel) (by decide +kernel) (by decide +kernel) (by decide +kernel) (by decide +kernel) c),
     (h c main_arg1 rfl).trans (final_keep m main_arg1 (by decide +kernel) (by decide +kernel) (by decide +kernel) (by decide +kernel) (by decide +kernel) (by decide +kernel) (by decide +kernel) c)⟩,
    sem_eq_zero_of_no_sems (by decide) r.2⟩) (run_fold m ρ)

end

end Cert.Proof.RRun
-- ==== Proof.KBlock.lean ====
/-
  The kernel's result block, entry by entry: each position's rank counts the positions that come before it, and row
  `r` of the block holds the box and the score of the position whose rank is `r`.
-/
module

public import proofs.«01_k».proof.Proof.KEnds

@[expose] public section

set_option maxRecDepth 16384

noncomputable section

namespace Cert.Proof.KRun

open Cert.KernelIdeal Cert.KernelIdeal.Gen
open Idealize.ShloMosaic
open Classical

section
variable (L K : Fin 2048 → Prop)

/-- The kept positions come first, then the removed ones, then those that never took part; by index within each. -/
def comesBefore (j i : Fin 2048) : Prop :=
  (K i ∧ K j ∧ j < i) ∨ ((L i ∧ ¬ K i) ∧ (K j ∨ ((L j ∧ ¬ K j) ∧ j < i)))
    ∨ (¬ L i ∧ (K j ∨ (L j ∧ ¬ K j) ∨ (¬ L j ∧ j < i)))

/-- How many positions come before one. -/
def rank (i : Fin 2048) : ℕ := (Finset.univ.filter fun j => comesBefore L K j i).card

/-- How many positions satisfy a condition. -/
def count (p : Fin 2048 → Prop) : ℕ := (Finset.univ.filter p).card

theorem sum_count (p : Fin 2048 → Prop) : ∑ i, b01 (p i) = ((count p : ℕ) : EReal) := sum_b01 p

theorem count_or (p q : Fin 2048 → Prop) (h : ∀ i, p i → ¬ q i) : count p + count q = count fun i => p i ∨ q i := by
  unfold count
  rw [← Finset.card_union_of_disjoint (Finset.disjoint_filter.mpr fun i _ => h i)]
  refine congrArg Finset.card (Finset.ext fun i => ?_)
  simp only [Finset.mem_union, Finset.mem_filter, Finset.mem_univ, true_and]

theorem count_congr {p q : Fin 2048 → Prop} (h : ∀ i, p i ↔ q i) : count p = count q := by
  rw [show p = q from funext fun i => propext (h i)]

variable {L K} (hK : ∀ i, K i → L i)
include hK

theorem before_kept {i : Fin 2048} (k : K i) (j : Fin 2048) : comesBefore L K j i ↔ K j ∧ j < i := by
  have l := hK i k
  simp [comesBefore, k, l]

omit hK in
theorem before_removed {i : Fin 2048} (l : L i) (k : ¬ K i) (j : Fin 2048) :
    comesBefore L K j i ↔ K j ∨ ((L j ∧ ¬ K j) ∧ j < i) := by
  simp [comesBefore, k, l]

theorem before_absent {i : Fin 2048} (l : ¬ L i) (j : Fin 2048) :
    comesBefore L K j i ↔ (K j ∨ (L j ∧ ¬ K j)) ∨ (¬ L j ∧ j < i) := by
  have k : ¬ K i := fun k => l (hK i k)
  simp [comesBefore, k, l, or_assoc]

/-- The kernel's sum of products is the rank. -/
theorem rank_sum (i : Fin 2048) :
    b01 (K i) * ((count fun j => K j ∧ j < i : ℕ) : EReal)
      + b01 (L i ∧ ¬ K i) * (((count K : ℕ) : EReal) + ((count fun j => (L j ∧ ¬ K j) ∧ j < i : ℕ) : EReal))
      + b01 (¬ L i) * (((count K : ℕ) : EReal) + ((count fun j => L j ∧ ¬ K j : ℕ) : EReal)
        + ((count fun j => ¬ L j ∧ j < i : ℕ) : EReal)) = ((rank L K i : ℕ) : EReal) := by
  by_cases k : K i
  · have l := hK i k
    have e : rank L K i = count fun j => K j ∧ j < i := count_congr (before_kept hK k)
    rw [b01_true k, b01_false (fun h => h.2 k), b01_false (fun h => h l), zero_mul, zero_mul, one_mul, add_zero, add_zero, e]
  · by_cases l : L i
    · have e : rank L K i = count K + count fun j => (L j ∧ ¬ K j) ∧ j < i :=
        (count_congr (before_removed l k)).trans (count_or _ _ fun j hj h => h.1.2 hj).symm
      rw [b01_false k, b01_true ⟨l, k⟩, b01_false (fun h => h l), zero_mul, zero_mul, one_mul, add_zero, zero_add, e, Nat.cast_add]
    · have e : rank L K i = count K + (count fun j => L j ∧ ¬ K j) + count fun j => ¬ L j ∧ j < i := by
        rw [count_or _ _ fun j hj h => h.2 hj, count_or _ _ fun j hj h => hj.elim (fun k => h.1 (hK j k)) fun r => h.1 r.1]
        exact count_congr (before_absent hK l)
      rw [b01_false k, b01_false (fun h => l h.1), b01_true l, zero_mul, zero_mul, one_mul, zero_add, zero_add, e, Nat.cast_add, Nat.cast_add]

/-- The kept positions are those whose rank is below their number. -/
theorem rank_lt_iff (i : Fin 2048) : rank L K i < count K ↔ K i := by
  constructor
  · intro h
    by_contra k
    refine absurd h (not_lt.mpr (Finset.card_le_card fun j hj => ?_))
    rw [Finset.mem_filter] at hj ⊢
    refine ⟨hj.1, ?_⟩
    by_cases l : L i
    · exact (before_removed l k j).mpr (Or.inl hj.2)
    · exact (before_absent hK l j).mpr (Or.inl (Or.inl hj.2))
  · intro k
    refine Finset.card_lt_card ⟨fun j hj => ?_, fun hs => ?_⟩
    · rw [Finset.mem_filter] at hj ⊢
      exact ⟨hj.1, ((before_kept hK k j).mp hj.2).1⟩
    · have h := (Finset.mem_filter.mp (hs (Finset.mem_filter.mpr ⟨Finset.mem_univ i, k⟩))).2
      exact lt_irrefl i ((before_kept hK k i).mp h).2

omit hK

theorem sitofp_nat (r : ℕ) (hr : r < 2 ^ 31) : (FloatOps.sitofp FTy.f32 (BitVec.ofNat 32 r) : Ideal .f32) = ((r : ℕ) : EReal) := by
  show (((BitVec.ofNat 32 r).toInt : ℝ) : EReal) = _
  rw [toInt_ofNat_small hr]
  rfl

theorem one_sub_b01 (p : Prop) : 1 - b01 p = b01 (¬ p) := by
  by_cases h : p
  · rw [b01_true h, b01_false (fun hn => hn h)]; exact EReal.sub_self (by decide) (by decide)
  · rw [b01_false h, b01_true h]; exact sub_zero 1

theorem natCast_eq_iff (m n : ℕ) : ((m : ℕ) : EReal) = ((n : ℕ) : EReal) ↔ m = n := Nat.cast_inj

theorem natCast_le_iff (m n : ℕ) : ((m : ℕ) : EReal) ≤ ((n : ℕ) : EReal) ↔ m ≤ n := Nat.cast_le

end

section
variable (a b c d s : FVec Ideal S1x2048 .f32) {L K : Fin 2048 → Prop} (hK : ∀ i, K i → L i)

theorem select_and_zero (w : BitVec 1) (x y : EReal) : Scalar.select (IntOp.andi 0#1 w) x y = y := by
  rcases BitVec.eq_zero_or_eq_one w with h | h <;> rw [h] <;> rfl

theorem select_mul (w : BitVec 1) (p : Prop) (x : EReal) : Scalar.select w (b01 p * x) 0 = b01 p * Scalar.select w x 0 := by
  rcases BitVec.eq_zero_or_eq_one w with h | h <;> rw [h]
  · exact (mul_zero _).symm
  · rfl

theorem select_le (m n : ℕ) (x y : EReal) :
    Scalar.select (IntOp.andi 1#1 (BitVec.ofBool (decide (((m : ℕ) : EReal) ≤ ((n : ℕ) : EReal))))) x y = if m ≤ n then x else y := by
  by_cases h : m ≤ n
  · rw [if_pos h, decide_eq_true ((natCast_le_iff m n).mpr h)]; rfl
  · rw [if_neg h, decide_eq_false (fun e => h ((natCast_le_iff m n).mp e))]; rfl

/-- The block the kernel computes from the rows, the eligible positions and the kept ones. -/
def result (L K : Fin 2048 → Prop) : FVec Ideal S1024x8 .f32 :=
  k0_pay15 a b c d s (row L) (iota .tc S2048x2048 32 [0] iota_S2048x2048_d0_w32) (iota .tc S2048x2048 32 [1] iota_S2048x2048_d1_w32)
    (row K) (row fun i => L i ∧ ¬ K i) (Scalar.ofBits .f32 0x3F800000#32)

include hK

/-- Picking by rank. -/
theorem pick (r : ℕ) (i : Fin 2048) (hi : ∀ x, rank L K x = r ↔ i = x) (v : Fin 2048 → EReal) :
    ∑ x, b01 (((r : ℕ) : EReal) = b01 (K x) * ((count fun j => K j ∧ j < x : ℕ) : EReal)
      + b01 (L x ∧ ¬ K x) * (((count K : ℕ) : EReal) + ((count fun j => (L j ∧ ¬ K j) ∧ j < x : ℕ) : EReal))
      + b01 (¬ L x) * (((count K : ℕ) : EReal) + ((count fun j => L j ∧ ¬ K j : ℕ) : EReal)
        + ((count fun j => ¬ L j ∧ j < x : ℕ) : EReal))) * v x = v i := by
  refine sum_pick i _ (fun x => ?_) v
  refine (Iff.trans ?_ (natCast_eq_iff r (rank L K x))).trans (eq_comm.trans (hi x))
  exact Eq.congr_right (rank_sum hK x)

variable (r : Fin 1024) (i : Fin 2048) (hi : ∀ x, rank L K x = r.val ↔ i = x)
include hi

theorem result_0 : result a b c d s L K (ix2 r 0) = a (ix2 0 i) := by
  unfold result
  pointwise [k0_pay15]
  simp only [sitofp_bit, row_apply, one_sub_b01, b01_mul, cmpi_slt_iff (n := 2048) (by norm_num), ofBool_decide_eq_one, sum_count,
    Finset.univ_unique, Finset.sum_const, Finset.card_singleton, one_smul, sitofp_nat _ (show r.val < 2 ^ 31 by omega)]
  rw [pick hK r.val i hi fun x => a (ix2 0 x), show IntOp.cmpi .eq 0#32 4#32 = 0#1 from rfl]
  exact select_and_zero _ _ _

theorem result_1 : result a b c d s L K (ix2 r 1) = b (ix2 0 i) := by
  unfold result
  pointwise [k0_pay15]
  simp only [sitofp_bit, row_apply, one_sub_b01, b01_mul, cmpi_slt_iff (n := 2048) (by norm_num), ofBool_decide_eq_one, sum_count,
    Finset.univ_unique, Finset.sum_const, Finset.card_singleton, one_smul, sitofp_nat _ (show r.val < 2 ^ 31 by omega)]
  rw [pick hK r.val i hi fun x => b (ix2 0 x), show IntOp.cmpi .eq 1#32 4#32 = 0#1 from rfl]
  exact select_and_zero _ _ _

theorem result_2 : result a b c d s L K (ix2 r 2) = c (ix2 0 i) := by
  unfold result
  pointwise [k0_pay15]
  simp only [sitofp_bit, row_apply, one_sub_b01, b01_mul, cmpi_slt_iff (n := 2048) (by norm_num), ofBool_decide_eq_one, sum_count,
    Finset.univ_unique, Finset.sum_const, Finset.card_singleton, one_smul, sitofp_nat _ (show r.val < 2 ^ 31 by omega)]
  rw [pick hK r.val i hi fun x => c (ix2 0 x), show IntOp.cmpi .eq 2#32 4#32 = 0#1 from rfl]
  exact select_and_zero _ _ _

theorem result_3 : result a b c d s L K (ix2 r 3) = d (ix2 0 i) := by
  unfold result
  pointwise [k0_pay15]
  simp only [sitofp_bit, row_apply, one_sub_b01, b01_mul, cmpi_slt_iff (n := 2048) (by norm_num), ofBool_decide_eq_one, sum_count,
    Finset.univ_unique, Finset.sum_const, Finset.card_singleton, one_smul, sitofp_nat _ (show r.val < 2 ^ 31 by omega)]
  rw [pick hK r.val i hi fun x => d (ix2 0 x), show IntOp.cmpi .eq 3#32 4#32 = 0#1 from rfl]
  exact select_and_zero _ _ _

variable (hL : ∀ j, L j → s (ix2 0 j) ≠ ⊤ ∧ s (ix2 0 j) ≠ ⊥)
include hL

/-- The score's column: a kept position's own score, −∞ past the kept ones. -/
theorem result_4 : result a b c d s L K (ix2 r 4) = if K i then s (ix2 0 i) else ⊥ := by
  unfold result
  pointwise [k0_pay15]
  simp only [sitofp_bit, row_apply, one_sub_b01, b01_mul, cmpi_slt_iff (n := 2048) (by norm_num), ofBool_decide_eq_one, sum_count,
    Finset.univ_unique, Finset.sum_const, Finset.card_singleton, one_smul, sitofp_nat _ (show r.val < 2 ^ 31 by omega), select_mul]
  rw [pick hK r.val i hi fun x => Scalar.select (IntOp.xori (FloatOps.weird (s (ix2 0 x))) 1#1) (s (ix2 0 x)) 0,
    select_le, ← (hi i).mpr rfl]
  by_cases k : K i
  · rw [if_pos k, if_neg (not_le.mpr ((rank_lt_iff hK i).mpr k))]
    have h := hL i (hK i k)
    have w : (FloatOps.weird (s (ix2 0 i)) : BitVec 1) = 0#1 := by
      show BitVec.ofBool (decide ((s (ix2 0 i) : EReal) = ⊤ ∨ (s (ix2 0 i) : EReal) = ⊥)) = 0#1
      rw [decide_eq_false (fun e => e.elim h.1 h.2)]; rfl
    rw [w]
    rfl
  · rw [if_neg k, if_pos (not_lt.mp fun h => k ((rank_lt_iff hK i).mp h))]
    simp [Ideal.ofBits, Ideal.ieee]

end

/-! ## The block from the padded coordinates and scores -/

/-- A coordinate clipped to the image. -/
def clipTo (x : EReal) : EReal := min (Ideal.ofBits .f32 0x44800000#32) (max 0 x)

/-- A clipped box is wide and high enough. -/
def wide (p0 p1 p2 p3 : EReal) : Prop :=
  Ideal.ofBits .f32 0x3A83126F#32 ≤ clipTo p2 - clipTo p0 ∧ Ideal.ofBits .f32 0x3A83126F#32 ≤ clipTo p3 - clipTo p1

/-- The score of a box: −∞ when the clipped box is too small. -/
def scoreOf (p0 p1 p2 p3 x : EReal) : EReal := if wide p0 p1 p2 p3 then x else ⊥

theorem scoreOf_eq (p0 p1 p2 p3 x : EReal) [Decidable (wide p0 p1 p2 p3)] :
    scoreOf p0 p1 p2 p3 x = if wide p0 p1 p2 p3 then x else ⊥ := by
  unfold scoreOf
  congr

section
variable (a b c d s : Vec Ideal S1x2048 .f32)

/-- The eligible positions. -/
def eligible (i : Fin 2048) : Prop := k0_pay11 (F := Ideal) a b c d s (ix2 0 i) = 1#1

/-- The overlaps. -/
def overlaps : Fin 2048 → Fin 2048 → Prop :=
  closeRows (k0_pay3 (F := Ideal) a) (k0_pay4 (F := Ideal) b) (k0_pay5 (F := Ideal) c) (k0_pay6 (F := Ideal) d) (k0_pay10 (F := Ideal) a b c d)

theorem pay14_eq (w : IVec S1x2048 1) (L K : Fin 2048 → Prop) (hw : (k0_pay12 w : FVec Ideal S1x2048 .f32) = row L) :
    k0_pay14 w (row K) = row fun i => L i ∧ ¬ K i := by
  refine row_ext _ _ fun j => ?_
  have e : k0_pay14 w (row K) (ix2 0 j) = (k0_pay12 w : FVec Ideal S1x2048 .f32) (ix2 0 j) * (1 - row K (ix2 0 j)) := by
    unfold k0_pay14
    pointwise
  rw [e, hw, row_apply, row_apply, row_apply, one_sub_b01, b01_mul]

/-- What the body computes is the block of the greedily kept positions. -/
theorem blockOf_eq : blockOf (F := Ideal) 2049 a b c d s
    = result (k0_pay3 (F := Ideal) a) (k0_pay4 (F := Ideal) b) (k0_pay5 (F := Ideal) c) (k0_pay6 (F := Ideal) d) (k0_pay9 (F := Ideal) a b c d s)
        (eligible a b c d s) (Greedy.kept (overlaps a b c d) (eligible a b c d s)) := by
  unfold blockOf result
  dsimp only
  rw [pay13_eq, pay12_eq, loopVal_eq, pay14_eq _ _ _ (pay12_eq _)]
  rfl

theorem pay3_apply (j : Fin 2048) : k0_pay3 (F := Ideal) a (ix2 0 j) = clipTo (a (ix2 0 j)) := by
  pointwise [k0_pay3]
  rfl
theorem pay4_apply (j : Fin 2048) : k0_pay4 (F := Ideal) a (ix2 0 j) = clipTo (a (ix2 0 j)) := by
  pointwise [k0_pay4]
  rfl
theorem pay5_apply (j : Fin 2048) : k0_pay5 (F := Ideal) a (ix2 0 j) = clipTo (a (ix2 0 j)) := by
  pointwise [k0_pay5]
  rfl
theorem pay6_apply (j : Fin 2048) : k0_pay6 (F := Ideal) a (ix2 0 j) = clipTo (a (ix2 0 j)) := by
  pointwise [k0_pay6]
  rfl
theorem pay7_apply (j : Fin 2048) : k0_pay7 (F := Ideal) a c (ix2 0 j) = clipTo (c (ix2 0 j)) - clipTo (a (ix2 0 j)) :=
  congrArg₂ (fun x y : EReal => x - y) (pay5_apply c j) (pay3_apply a j)
theorem pay8_apply (j : Fin 2048) : k0_pay8 (F := Ideal) b d (ix2 0 j) = clipTo (d (ix2 0 j)) - clipTo (b (ix2 0 j)) :=
  congrArg₂ (fun x y : EReal => x - y) (pay6_apply d j) (pay4_apply b j)
theorem pay10_apply (j : Fin 2048) : k0_pay10 (F := Ideal) a b c d (ix2 0 j)
    = (clipTo (c (ix2 0 j)) - clipTo (a (ix2 0 j))) * (clipTo (d (ix2 0 j)) - clipTo (b (ix2 0 j))) :=
  congrArg₂ (fun x y : EReal => x * y) (pay7_apply a c j) (pay8_apply b d j)

/-- Choosing by two tests. -/
theorem select_and (p q : Prop) [Decidable p] [Decidable q] (x y : EReal) :
    Scalar.select (IntOp.andi (BitVec.ofBool (decide p)) (BitVec.ofBool (decide q))) x y = if p ∧ q then x else y := by
  by_cases hp : p <;> by_cases hq : q
  · rw [if_pos ⟨hp, hq⟩, decide_eq_true hp, decide_eq_true hq]; rfl
  · rw [if_neg (fun h => hq h.2), decide_eq_true hp, decide_eq_false hq]; rfl
  · rw [if_neg (fun h => hp h.1), decide_eq_false hp, decide_eq_true hq]; rfl
  · rw [if_neg (fun h => hp h.1), decide_eq_false hp, decide_eq_false hq]; rfl

theorem neg_inf : Ideal.ofBits .f32 0xFF800000#32 = ⊥ := by simp [Ideal.ofBits, Ideal.ieee]

theorem pay9_apply (j : Fin 2048) : k0_pay9 (F := Ideal) a b c d s (ix2 0 j)
    = scoreOf (a (ix2 0 j)) (b (ix2 0 j)) (c (ix2 0 j)) (d (ix2 0 j)) (s (ix2 0 j)) := by
  have e : k0_pay9 (F := Ideal) a b c d s (ix2 0 j) = Scalar.select (IntOp.andi
      (BitVec.ofBool (decide (Ideal.ofBits .f32 0x3A83126F#32 ≤ (k0_pay7 (F := Ideal) a c (ix2 0 j) : EReal))))
      (BitVec.ofBool (decide (Ideal.ofBits .f32 0x3A83126F#32 ≤ (k0_pay8 (F := Ideal) b d (ix2 0 j) : EReal)))))
      (s (ix2 0 j)) (Ideal.ofBits .f32 0xFF800000#32) := by
    unfold k0_pay9
    pointwise
  rw [e, select_and, pay7_apply, pay8_apply, neg_inf]
  exact (@scoreOf_eq _ _ _ _ _ instDecidableAnd).symm

/-- A position is eligible when its score is finite. -/
theorem eligible_iff (j : Fin 2048) : eligible a b c d s j
    ↔ k0_pay9 (F := Ideal) a b c d s (ix2 0 j) ≠ (⊤ : EReal) ∧ k0_pay9 (F := Ideal) a b c d s (ix2 0 j) ≠ (⊥ : EReal) := by
  have e : ∀ x : EReal, IntOp.xori (BitVec.ofBool (decide (x = ⊤ ∨ x = ⊥))) 1#1 = 1#1 ↔ x ≠ ⊤ ∧ x ≠ ⊥ := by
    intro x
    by_cases h : x = ⊤ ∨ x = ⊥
    · rw [decide_eq_true h]
      exact ⟨fun h' => absurd h' (by decide), fun h' => absurd h (not_or.mpr h')⟩
    · rw [decide_eq_false h]
      exact ⟨fun _ => not_or.mp h, fun _ => rfl⟩
  exact e _

end

end Cert.Proof.KRun

end
-- ==== Proof.RRead.lean ====
/-
  The reference's lines, read as functions of its arguments: the selection, the clipping, the scores, the sorting and the
  overlaps.
-/
module

public import proofs.«01_k».proof.Proof.RRun

@[expose] public section

set_option maxRecDepth 16384

noncomputable section

/-! # The reference program's results as functions of its arguments

Each stretch of the reference is read from any contents, and the stretches are put together: the two results are
written as plain functions of the boxes and the scores. -/

namespace Cert.Proof.RRun

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL.Sem

/-! ## The functions -/

/-- Adds `n` to the indices below zero. -/
def wrap (n : BitVec 32) (i : IVec S2000 32) : IVec S2000 32 :=
  select (cmpi .slt i (broadcastInDim S2000 ![] bcast_S_S2000 (constantI S_ 32 0#32)))
    (addi i (broadcastInDim S2000 ![] bcast_S_S2000 (constantI S_ 32 n))) i

/-- The indices as a column. -/
def column (i : IVec S2000 32) : IVec S2000x1 32 := broadcastInDim S2000x1 ![0] bcast_S2000_S2000x1_0 i

/-- Whether each index lies between 0 and `n`. -/
def within (n : BitVec 32) (i : IVec S2000x1 32) : IVec S2000 1 :=
  Host.reduce IntOp.andi (andi (cmpi .sge i (broadcastInDim S2000x1 ![] bcast_S_S2000x1 (constantI S_ 32 0#32)))
    (cmpi .sle i (broadcastInDim S2000x1 ![0, 1] bcast_S1x1_S2000x1_0_1 (broadcastInDim S1x1 ![1] bcast_S1_S1x1_1 (constantI S1 32 n)))))
    (constantI S_ 1 1#1) reducesTo_S2000x1_S2000_d1 h_S_

/-- The rows of the given boxes at the given indices. -/
def takeBoxes (x : FVec Ideal S20000x4 .f32) (i : IVec S2000 32) : FVec Ideal S2000x4 .f32 :=
  select (broadcastInDim S2000x4 ![0] bcast_S2000_S2000x4_0 (within 19999#32 (column (wrap 20000#32 i))))
    (Host.gather gather_S20000x4_S2000x1_S2000x4_1_0_n_n_0_1_14 x (column (wrap 20000#32 i)))
    (broadcastInDim S2000x4 ![] bcast_S_S2000x4 (constant S_ .f32 0x7FC00000#32))

/-- The rows of 2000 boxes at the given indices. -/
def takeRows (x : FVec Ideal S2000x4 .f32) (i : IVec S2000 32) : FVec Ideal S2000x4 .f32 :=
  select (broadcastInDim S2000x4 ![0] bcast_S2000_S2000x4_0 (within 1999#32 (column (wrap 2000#32 i))))
    (Host.gather gather_S2000x4_S2000x1_S2000x4_1_0_n_n_0_1_14 x (column (wrap 2000#32 i)))
    (broadcastInDim S2000x4 ![] bcast_S_S2000x4 (constant S_ .f32 0x7FC00000#32))

/-- The entries of 2000 scores at the given indices. -/
def takeScores (x : FVec Ideal S2000 .f32) (i : IVec S2000 32) : FVec Ideal S2000 .f32 :=
  select (within 1999#32 (column (wrap 2000#32 i)))
    (Host.gather gather_S2000_S2000x1_S2000_n_0_n_n_0_1_1 x (column (wrap 2000#32 i)))
    (broadcastInDim S2000 ![] bcast_S_S2000 (constant S_ .f32 0x7FC00000#32))

def wrapOut (i : IVec S1000 32) : IVec S1000 32 :=
  select (cmpi .slt i (broadcastInDim S1000 ![] bcast_S_S1000 (constantI S_ 32 0#32)))
    (addi i (broadcastInDim S1000 ![] bcast_S_S1000 (constantI S_ 32 2000#32))) i

def columnOut (i : IVec S1000 32) : IVec S1000x1 32 := broadcastInDim S1000x1 ![0] bcast_S1000_S1000x1_0 i

def withinOut (i : IVec S1000x1 32) : IVec S1000 1 :=
  Host.reduce IntOp.andi (andi (cmpi .sge i (broadcastInDim S1000x1 ![] bcast_S_S1000x1 (constantI S_ 32 0#32)))
    (cmpi .sle i (broadcastInDim S1000x1 ![0, 1] bcast_S1x1_S1000x1_0_1 (broadcastInDim S1x1 ![1] bcast_S1_S1x1_1 (constantI S1 32 1999#32)))))
    (constantI S_ 1 1#1) reducesTo_S1000x1_S1000_d1 h_S_

/-- The 1000 rows of the result. -/
def takeOut (x : FVec Ideal S2000x4 .f32) (i : IVec S1000 32) : FVec Ideal S1000x4 .f32 :=
  select (broadcastInDim S1000x4 ![0] bcast_S1000_S1000x4_0 (withinOut (columnOut (wrapOut i))))
    (Host.gather gather_S2000x4_S1000x1_S1000x4_1_0_n_n_0_1_14 x (columnOut (wrapOut i)))
    (broadcastInDim S1000x4 ![] bcast_S_S1000x4 (constant S_ .f32 0x7FC00000#32))

/-- The 2000 highest scores, in descending order. -/
def topScores (s : FVec Ideal S20000 .f32) : FVec Ideal S2000 .f32 :=
  (Host.topK S2000 0 (FloatOps.cmpfTotal .gt) s sliceFits_S20000_S2000).1

/-- Where they were. -/
def topIndices (s : FVec Ideal S20000 .f32) : IVec S2000 32 :=
  (Host.topK S2000 0 (FloatOps.cmpfTotal .gt) s sliceFits_S20000_S2000).2

/-- Clips to the image. -/
def clip (x : FVec Ideal S2000 .f32) : FVec Ideal S2000 .f32 :=
  minimumf (broadcastInDim S2000 ![] bcast_S_S2000 (constant S_ .f32 0x44800000#32))
    (maximumf (broadcastInDim S2000 ![] bcast_S_S2000 (constant S_ .f32 0x00000000#32)) x)

def col0 (x : FVec Ideal S2000x4 .f32) : FVec Ideal S2000 .f32 :=
  shapeCast S2000 (extractStridedSlice S2000x1 ![0, 0] x slices_S2000x4_S2000x1_0_0) shapeCasts_S2000x1_S2000
def col1 (x : FVec Ideal S2000x4 .f32) : FVec Ideal S2000 .f32 :=
  shapeCast S2000 (extractStridedSlice S2000x1 ![0, 1] x slices_S2000x4_S2000x1_0_1) shapeCasts_S2000x1_S2000
def col2 (x : FVec Ideal S2000x4 .f32) : FVec Ideal S2000 .f32 :=
  shapeCast S2000 (extractStridedSlice S2000x1 ![0, 2] x slices_S2000x4_S2000x1_0_2) shapeCasts_S2000x1_S2000
def col3 (x : FVec Ideal S2000x4 .f32) : FVec Ideal S2000 .f32 :=
  shapeCast S2000 (extractStridedSlice S2000x1 ![0, 3] x slices_S2000x4_S2000x1_0_3) shapeCasts_S2000x1_S2000

def colUp (x : FVec Ideal S2000 .f32) : FVec Ideal S2000x1 .f32 := broadcastInDim S2000x1 ![0] bcast_S2000_S2000x1_0 x

/-- The boxes, each coordinate clipped. -/
def clipped (x : FVec Ideal S2000x4 .f32) : FVec Ideal S2000x4 .f32 :=
  concatenate S2000x4 1 [⟨S2000x1, colUp (clip (col0 x))⟩, ⟨S2000x1, colUp (clip (col1 x))⟩,
    ⟨S2000x1, colUp (clip (col2 x))⟩, ⟨S2000x1, colUp (clip (col3 x))⟩] concatenates_S2000x1_S2000x1_S2000x1_S2000x1_S2000x4_d1

/-- Whether a box is wide and high enough. -/
def large (b : FVec Ideal S2000x4 .f32) : IVec S2000 1 :=
  andi (cmpf .oge (subf (col2 b) (col0 b)) (broadcastInDim S2000 ![] bcast_S_S2000 (constant S_ .f32 0x3A83126F#32)))
    (cmpf .oge (subf (col3 b) (col1 b)) (broadcastInDim S2000 ![] bcast_S_S2000 (constant S_ .f32 0x3A83126F#32)))

/-- The scores, those outside the mask replaced by −∞. -/
def masked (w : IVec S2000 1) (s : FVec Ideal S2000 .f32) : FVec Ideal S2000 .f32 :=
  select w s (broadcastInDim S2000 ![] bcast_S_S2000 (constant S_ .f32 0xFF800000#32))

/-- The order that sorts the scores descendingly. -/
def order (s : FVec Ideal S2000 .f32) : IVec S2000 32 :=
  (Host.sort2 S2000 0 comparator_f32_i32_d0 (Host.negf s) (iotaInDim S2000 32 0)).2

def area (b : FVec Ideal S2000x4 .f32) : FVec Ideal S2000 .f32 := mulf (subf (col2 b) (col0 b)) (subf (col3 b) (col1 b))

def pairRow (x : FVec Ideal S2000x2 .f32) : FVec Ideal S2000x2000x2 .f32 :=
  broadcastInDim S2000x2000x2 ![0, 1, 2] bcast_S2000x1x2_S2000x2000x2_0_1_2 (broadcastInDim S2000x1x2 ![0, 2] bcast_S2000x2_S2000x1x2_0_2 x)
def pairCol (x : FVec Ideal S2000x2 .f32) : FVec Ideal S2000x2000x2 .f32 :=
  broadcastInDim S2000x2000x2 ![0, 1, 2] bcast_S1x2000x2_S2000x2000x2_0_1_2 (broadcastInDim S1x2000x2 ![1, 2] bcast_S2000x2_S1x2000x2_1_2 x)

def low (b : FVec Ideal S2000x4 .f32) : FVec Ideal S2000x2 .f32 := extractStridedSlice S2000x2 ![0, 0] b slices_S2000x4_S2000x2_0_0
def high (b : FVec Ideal S2000x4 .f32) : FVec Ideal S2000x2 .f32 := extractStridedSlice S2000x2 ![0, 2] b slices_S2000x4_S2000x2_0_2

/-- The sides of the intersection of each two boxes. -/
def sides (b : FVec Ideal S2000x4 .f32) : FVec Ideal S2000x2000x2 .f32 :=
  maximumf (broadcastInDim S2000x2000x2 ![] bcast_S_S2000x2000x2 (constant S_ .f32 0x00000000#32))
    (subf (minimumf (pairRow (high b)) (pairCol (high b))) (maximumf (pairRow (low b)) (pairCol (low b))))

/-- The area of the intersection of each two boxes. -/
def inter (b : FVec Ideal S2000x4 .f32) : FVec Ideal S2000x2000 .f32 :=
  mulf (shapeCast S2000x2000 (extractStridedSlice S2000x2000x1 ![0, 0, 0] (sides b) slices_S2000x2000x2_S2000x2000x1_0_0_0) shapeCasts_S2000x2000x1_S2000x2000)
    (shapeCast S2000x2000 (extractStridedSlice S2000x2000x1 ![0, 0, 1] (sides b) slices_S2000x2000x2_S2000x2000x1_0_0_1) shapeCasts_S2000x2000x1_S2000x2000)

/-- The intersection over the union of each two boxes. -/
def iou (b : FVec Ideal S2000x4 .f32) : FVec Ideal S2000x2000 .f32 :=
  Host.divf (inter b) (addf (subf (addf
    (broadcastInDim S2000x2000 ![0, 1] bcast_S2000x1_S2000x2000_0_1 (broadcastInDim S2000x1 ![0] bcast_S2000_S2000x1_0 (area b)))
    (broadcastInDim S2000x2000 ![0, 1] bcast_S1x2000_S2000x2000_0_1 (broadcastInDim S1x2000 ![1] bcast_S2000_S1x2000_1 (area b))))
    (inter b)) (broadcastInDim S2000x2000 ![] bcast_S_S2000x2000 (constant S_ .f32 0x3089705F#32)))

/-- Whether each score is finite. -/
def finite (s : FVec Ideal S2000 .f32) : IVec S2000 1 :=
  cmpf .olt (Host.absf s) (broadcastInDim S2000 ![] bcast_S_S2000 (constant S_ .f32 0x7F800000#32))

/-- The final selection's values and its indices. -/
def outScores (s : FVec Ideal S2000 .f32) : FVec Ideal S1000 .f32 :=
  (Host.topK S1000 0 (FloatOps.cmpfTotal .gt) s sliceFits_S2000_S1000).1
def outIndices (s : FVec Ideal S2000 .f32) : IVec S1000 32 :=
  (Host.topK S1000 0 (FloatOps.cmpfTotal .gt) s sliceFits_S2000_S1000).2

/-! ## The stretches, one by one -/

section
variable (V : Valuation τ sig (Elt Ideal))

theorem at0_values : after (hostOps0 (F := Ideal)) V (Proc.devRef .tc main_values) = topScores (V (Proc.devRef .tc main_arg1)) := by
  after_reads_simp
  rfl
theorem at0_indices : after (hostOps0 (F := Ideal)) V (Proc.devRef .tc main_indices) = topIndices (V (Proc.devRef .tc main_arg1)) := by
  after_reads_simp
  rfl
theorem at1_v0 : after (hostOps0_1 (F := Ideal)) V (Proc.devRef .tc main_v0)
    = takeBoxes (V (Proc.devRef .tc main_arg0)) (V (Proc.devRef .tc main_indices)) := by
  after_reads_simp
  rfl

/-- Stretches 2 and 3, and so on: the four coordinates, clipped. -/
theorem at3_v3 : after (hostOps0_3 (F := Ideal)) (after (hostOps0_2 (F := Ideal)) V) (Proc.devRef .tc main_v3) = clip (col0 (V (Proc.devRef .tc main_v0))) := by
  after_reads_simp
  rfl
theorem at5_v6 : after (hostOps0_5 (F := Ideal)) (after (hostOps0_4 (F := Ideal)) V) (Proc.devRef .tc main_v6) = clip (col1 (V (Proc.devRef .tc main_v0))) := by
  after_reads_simp
  rfl
theorem at7_v9 : after (hostOps0_7 (F := Ideal)) (after (hostOps0_6 (F := Ideal)) V) (Proc.devRef .tc main_v9) = clip (col2 (V (Proc.devRef .tc main_v0))) := by
  after_reads_simp
  rfl
theorem at9_v12 : after (hostOps0_9 (F := Ideal)) (after (hostOps0_8 (F := Ideal)) V) (Proc.devRef .tc main_v12) = clip (col3 (V (Proc.devRef .tc main_v0))) := by
  after_reads_simp
  rfl

theorem at14_v36 : after (hostOps0_14 (F := Ideal)) V (Proc.devRef .tc main_v36)
    = takeRows (V (Proc.devRef .tc main_v17)) (V (Proc.devRef .tc main_v35)) := by
  after_reads_simp
  rfl
theorem at15_v37 : after (hostOps0_15 (F := Ideal)) V (Proc.devRef .tc main_v37)
    = takeScores (V (Proc.devRef .tc main_v33)) (V (Proc.devRef .tc main_v35)) := by
  after_reads_simp
  rfl
theorem at13_v35 : after (hostOps0_13 (F := Ideal)) (after (hostOps0_12 (F := Ideal)) V) (Proc.devRef .tc main_v35)
    = order (V (Proc.devRef .tc main_v33)) := by
  after_reads_simp
  rfl
theorem at22_v94 : after (hostOps0_22 (F := Ideal)) V (Proc.devRef .tc main_v96)
    = takeOut (V (Proc.devRef .tc main_v36)) (V (Proc.devRef .tc main_indices_16)) := by
  after_reads_simp
  rfl
theorem at21_values : after (hostOps0_21 (F := Ideal)) V (Proc.devRef .tc main_values_15) = outScores (V (Proc.devRef .tc main_v95)) := by
  after_reads_simp
  rfl
theorem at21_indices : after (hostOps0_21 (F := Ideal)) V (Proc.devRef .tc main_indices_16) = outIndices (V (Proc.devRef .tc main_v95)) := by
  after_reads_simp
  rfl
theorem at20_v93 : after (hostOps0_20 (F := Ideal)) (after (hostOps0_19 (F := Ideal)) V) (Proc.devRef .tc main_v95)
    = masked (V (Proc.devRef .tc main_v94_4)) (V (Proc.devRef .tc main_v37)) := by
  after_reads_simp
  rfl

theorem at10_v17 : after (hostOps0_10 (F := Ideal)) V (Proc.devRef .tc main_v17)
    = concatenate S2000x4 1 [⟨S2000x1, colUp (V (Proc.devRef .tc main_v3))⟩, ⟨S2000x1, colUp (V (Proc.devRef .tc main_v6))⟩,
    ⟨S2000x1, colUp (V (Proc.devRef .tc main_v9))⟩, ⟨S2000x1, colUp (V (Proc.devRef .tc main_v12))⟩] concatenates_S2000x1_S2000x1_S2000x1_S2000x1_S2000x4_d1 := by
  after_reads_simp
  rfl

theorem at11_v33 : after (hostOps0_11 (F := Ideal)) (after (hostOps0_10 (F := Ideal)) V) (Proc.devRef .tc main_v33)
    = masked (large (after (hostOps0_10 (F := Ideal)) V (Proc.devRef .tc main_v17))) (V (Proc.devRef .tc main_values)) := by
  after_reads_simp
  rfl

theorem at18_iou : after (hostOps0_18 (F := Ideal)) (after (hostOps0_17 (F := Ideal)) (after (hostOps0_16 (F := Ideal)) V)) (Proc.devRef .tc main_v94_0)
    = iou (V (Proc.devRef .tc main_v36)) := by
  after_reads_simp
  rfl
theorem at18_iota : after (hostOps0_18 (F := Ideal)) V (Proc.devRef .tc main_v94_1) = iotaInDim S2000 32 0 := by
  after_reads_simp
  rfl
theorem at18_count : after (hostOps0_18 (F := Ideal)) V (Proc.devRef .tc main_v94_3) = constantI S_ 32 0#32 := by
  after_reads_simp
  rfl
theorem at18_finite : after (hostOps0_18 (F := Ideal)) V (Proc.devRef .tc main_v94_4) = finite (V (Proc.devRef .tc main_v37)) := by
  after_reads_simp
  rfl
end

end Cert.Proof.RRun
-- ==== Proof.KValue.lean ====
/-
  What the kernel's program returns: the host lines before the region read entry by entry, the region's one block, and
  the host lines after it.
-/
module

public import proofs.«01_k».proof.Proof.KRun
public import proofs.«01_k».proof.Proof.KBlock
public import proofs.«01_k».proof.Proof.RRead

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.ShloMosaic.StableHlo
open Idealize.SL.Sem
open Idealize.ShloMosaic.Pipeline (Dat)

/-! ## The host lines before the region -/

section
variable (W : Valuation τ sig (Elt Ideal))

/-- What each host line before the region writes. -/
theorem line0_values : after (hostOps0 (F := Ideal)) W (Proc.devRef .tc main_values) = RRun.topScores (W (Proc.devRef .tc main_arg1)) := by
  after_reads_simp
  rfl
theorem line0_indices : after (hostOps0 (F := Ideal)) W (Proc.devRef .tc main_indices) = RRun.topIndices (W (Proc.devRef .tc main_arg1)) := by
  after_reads_simp
  rfl
theorem line0_arg0 : after (hostOps0 (F := Ideal)) W (Proc.devRef .tc main_arg0) = W (Proc.devRef .tc main_arg0) := by
  after_reads_simp
theorem line1_v0 : after (hostOps0_1 (F := Ideal)) W (Proc.devRef .tc main_v0)
    = RRun.takeBoxes (W (Proc.devRef .tc main_arg0)) (W (Proc.devRef .tc main_indices)) := by
  after_reads_simp
  rfl
theorem line1_values : after (hostOps0_1 (F := Ideal)) W (Proc.devRef .tc main_values) = W (Proc.devRef .tc main_values) := by
  after_reads_simp

/-- The four coordinates as rows, with 48 zeros at the end of each. -/
def padBoxes (x : FVec Ideal S2000x4 .f32) : FVec Ideal S4x2048 .f32 :=
  pad S4x2048 ![0, 0] ![0, 48] ![0, 0] (transpose S4x2000 [1, 0] x transposes_S2000x4_S4x2000_1_0) (sitofp .f32 (constantI S_ 32 0#32))
    pads_S4x2000_S4x2048_000_0480 h_S_

/-- The scores as a row, with 48 times −∞ at its end. -/
def padScores (s : FVec Ideal S2000 .f32) : FVec Ideal S1x2048 .f32 :=
  broadcastInDim S1x2048 ![1] bcast_S2048_S1x2048_1
    (pad S2048 ![0] ![48] ![0] s (id (constant S_ .f32 0xFF800000#32)) pads_S2000_S2048_0480 h_S_)

theorem lines_v2 : after (hostOps0_6 (F := Ideal)) (after hostOps0_5 (after hostOps0_4 (after hostOps0_3 (after hostOps0_2 W)))) (Proc.devRef .tc main_v2)
    = padBoxes (W (Proc.devRef .tc main_v0)) := by
  after_reads_simp
  rfl
theorem lines_v4 : after (hostOps0_6 (F := Ideal)) (after hostOps0_5 (after hostOps0_4 (after hostOps0_3 (after hostOps0_2 W)))) (Proc.devRef .tc main_v4)
    = padScores (W (Proc.devRef .tc main_values)) := by
  after_reads_simp
  rfl
end

variable (m : (ℓ : Loc nD τ sig) → Buf (Elt Ideal) ℓ) (c : Dev nD)

/-- The boxes and the scores given to the kernel's program. -/
def boxesArg : FVec Ideal S20000x4 .f32 := m ((c.tc : Thread nD τ).loc main_arg0)
def scoresArg : FVec Ideal S20000 .f32 := m ((c.tc : Thread nD τ).loc main_arg1)

/-- The lines before the region, one stretch after the other. -/
theorem V0_eq : V0 m c = after (hostOps0_6 (F := Ideal)) (after hostOps0_5 (after hostOps0_4 (after hostOps0_3 (after hostOps0_2
    (after hostOps0_1 (after hostOps0 (fun b => m (c, b)))))))) := rfl

/-- The coordinates the region reads. -/
theorem V_v2 : V m c main_v2 = padBoxes (RRun.takeBoxes (boxesArg m c) (RRun.topIndices (scoresArg m c))) := by
  show V0 m c (Proc.devRef .tc main_v2) = _
  rw [V0_eq, lines_v2, line1_v0, line0_indices, line0_arg0]
  rfl
/-- The scores the region reads. -/
theorem V_v4 : V m c main_v4 = padScores (RRun.topScores (scoresArg m c)) := by
  show V0 m c (Proc.devRef .tc main_v4) = _
  rw [V0_eq, lines_v4, line1_values, line0_values]
  rfl

theorem padBoxes_apply (x : FVec Ideal S2000x4 .f32) (k : Fin 4) (j : Fin 2048) :
    padBoxes x (ix2 k j) = if h : j.val < 2000 then x (ix2 ⟨j.val, h⟩ k) else 0 := by
  pointwise [padBoxes]
  rw [show (FloatOps.sitofp (F := Ideal) .f32 (0#32 : BitVec 32) : Ideal .f32) = 0 from (sitofp_nat 0 (by norm_num)).trans Nat.cast_zero]
theorem padScores_apply (s : FVec Ideal S2000 .f32) (j : Fin 2048) :
    padScores s (ix2 0 j) = if h : j.val < 2000 then s (ix1 ⟨j.val, h⟩) else (⊥ : EReal) := by
  pointwise [padScores]
  rw [show (id (constant (F := Ideal) S_ .f32 0xFF800000#32) (Shape.Idx.first h_S_) : Ideal .f32) = (⊥ : EReal) from neg_inf]

/-! ## The region -/

/-- The one block of each window is its whole array. -/
theorem iblk_0 (t : Fin (cfg0 (F := Ideal)).N) : iblk m c 0 t = V m c main_v2 := by
  funext y
  show V m c main_v2 ((win0_0.rect t).emb y) = V m c main_v2 y
  exact congrArg (V m c main_v2) (funext fun a => Fin.ext (Pipeline.Window.rect_emb_val_of_index_zero win0_0 t a rfl y))
theorem iblk_1 (t : Fin (cfg0 (F := Ideal)).N) : iblk m c 1 t = V m c main_v4 := by
  funext y
  show V m c main_v4 ((win0_1.rect t).emb y) = V m c main_v4 y
  exact congrArg (V m c main_v4) (funext fun a => Fin.ext (Pipeline.Window.rect_emb_val_of_index_zero win0_1 t a rfl y))

/-- What the region's array holds at the end. -/
def regionVal : FVec Ideal S1024x8 .f32 := outVal 2049 (V m c main_v2) (V m c main_v4)

/-- The block written back is the whole of what the region's array ends with. -/
theorem flushed_eq (t : Fin (cfg0 (F := Ideal)).N) :
    (dats 2049 m 0 c).flushed 2 t = (win0_2.blk t).view.read (Elt Ideal) (regionVal m c) := by
  show (cfg0.win 2).cut (grid0.coords t) ((dats 2049 m 0 c).after 2 t) = _
  rw [after0_2, iblk_0, iblk_1]
  funext y
  show regionVal m c y = regionVal m c ((win0_2.rect t).emb y)
  exact congrArg (regionVal m c) (funext fun a => Fin.ext (Pipeline.Window.rect_emb_val_of_index_zero win0_2 t a rfl y).symm)

/-- Every entry of the region's array is written. -/
theorem covered (i : S1024x8.Idx) :
    ∃ t : Fin (cfg0 (F := Ideal)).N, ((cfg0 (F := Ideal)).win 2).flush t = true ∧ i ∈ (((cfg0 (F := Ideal)).win 2).blk t).view.set := by
  refine ⟨t0_0, flush0_2 _, ?_⟩
  show i ∈ ((View.whole main_v5).slice (win0_2.rect t0_0)).set
  rw [View.set_slice_whole, Rect.mem_set_unit]
  have e : ∀ a, win0_2.index t0_0 a * win0_2.size a = 0 ∧ win0_2.xsize (grid0.coords t0_0) a = S1024x8.size a := by
    decide +kernel
  intro a
  show win0_2.index t0_0 a * win0_2.size a ≤ (i a : Nat) ∧ (i a : Nat) < win0_2.index t0_0 a * win0_2.size a + win0_2.xsize (grid0.coords t0_0) a
  rw [(e a).1, (e a).2, Nat.zero_add]
  exact ⟨Nat.zero_le _, (i a).isLt⟩

/-- The region's array at its end. -/
theorem region_ends : (dats 2049 m 0 c).arrAt 2 (cfg0 (F := Ideal)).N = regionVal m c :=
  (dats 2049 m 0 c).arrAt_eq_of_cover 2 (regionVal m c) (fun t _ => flushed_eq m c t) covered

/-- The rows the kernel loads. -/
def rowsOf (x : FVec Ideal S2000x4 .f32) (k : Fin 4) : Vec Ideal S1x2048 .f32 :=
  match k with
  | 0 => View.ld (padBoxes x) rowOf0
  | 1 => View.ld (padBoxes x) rowOf1
  | 2 => View.ld (padBoxes x) rowOf2
  | 3 => View.ld (padBoxes x) rowOf3

theorem rowsOf_apply (x : FVec Ideal S2000x4 .f32) (k : Fin 4) (j : Fin 2048) :
    rowsOf x k (ix2 0 j) = if h : j.val < 2000 then x (ix2 ⟨j.val, h⟩ k) else 0 := by
  rw [← padBoxes_apply]
  fin_cases k
  · exact congrArg (padBoxes x) (funext fun a => by fin_cases a <;> exact Fin.ext (by simp))
  · exact congrArg (padBoxes x) (funext fun a => by fin_cases a <;> exact Fin.ext (by simp))
  · exact congrArg (padBoxes x) (funext fun a => by fin_cases a <;> exact Fin.ext (by simp))
  · exact congrArg (padBoxes x) (funext fun a => by fin_cases a <;> exact Fin.ext (by simp))

/-- What the region's array holds, from the five rows. -/
theorem regionVal_eq : regionVal m c
    = blockOf 2049 (rowsOf (RRun.takeBoxes (boxesArg m c) (RRun.topIndices (scoresArg m c))) 0)
        (rowsOf (RRun.takeBoxes (boxesArg m c) (RRun.topIndices (scoresArg m c))) 1)
        (rowsOf (RRun.takeBoxes (boxesArg m c) (RRun.topIndices (scoresArg m c))) 2)
        (rowsOf (RRun.takeBoxes (boxesArg m c) (RRun.topIndices (scoresArg m c))) 3)
        (padScores (RRun.topScores (scoresArg m c))) := by
  unfold regionVal outVal
  rw [V_v2, V_v4, View.ld_unit_zero (funext fun a => by fin_cases a <;> rfl)]
  rfl

/-! ## The host lines after the region -/

theorem arrays_distinct : Function.Injective (Pipeline.arrRef spec0) := by
  decide

/-- The contents after the region. -/
abbrev exitVal : Valuation τ sig (Elt Ideal) :=
  Pipeline.withArrays (cfg0 (F := Ideal)).spec c (V0 m c) fun w => (dats 2049 m 0 c).arrAt w (cfg0 (F := Ideal)).N

theorem exit_v5 : exitVal m c (Proc.devRef .tc main_v5) = regionVal m c :=
  (Pipeline.withArrays_arr spec0 arrays_distinct c (V0 m c) _ 2).trans (region_ends m c)

/-- The first thousand rows of the block, their first four columns: the boxes. -/
def firstColumns (x : FVec Ideal S1024x8 .f32) : FVec Ideal S1000x4 .f32 := extractStridedSlice S1000x4 ![0, 0] x slices_S1024x8_S1000x4_0_0
/-- The first thousand rows of the block, their fifth column: the scores. -/
def fifthColumn (x : FVec Ideal S1024x8 .f32) : FVec Ideal S1000 .f32 :=
  shapeCast S1000 (extractStridedSlice S1000x1 ![0, 4] x slices_S1024x8_S1000x1_0_4) shapeCasts_S1000x1_S1000

theorem last_v6 (W : Valuation τ sig (Elt Ideal)) : after (hostOps1 (F := Ideal)) W (Proc.devRef .tc main_v6) = firstColumns (W (Proc.devRef .tc main_v5)) := by
  after_reads_simp
  rfl
theorem last_v8 (W : Valuation τ sig (Elt Ideal)) : after (hostOps1 (F := Ideal)) W (Proc.devRef .tc main_v8) = fifthColumn (W (Proc.devRef .tc main_v5)) := by
  after_reads_simp
  rfl

/-- The boxes at the end of the program. -/
theorem end_v6 : Pipeline.afterTail₀ (cfgs (F := Ideal)) (dats 2049 m) 0 (V0 m) [hostOps1] c main_v6 = firstColumns (regionVal m c) :=
  (last_v6 (exitVal m c)).trans (congrArg firstColumns (exit_v5 m c))
/-- The scores at the end of the program. -/
theorem end_v8 : Pipeline.afterTail₀ (cfgs (F := Ideal)) (dats 2049 m) 0 (V0 m) [hostOps1] c main_v8 = fifthColumn (regionVal m c) :=
  (last_v8 (exitVal m c)).trans (congrArg fifthColumn (exit_v5 m c))

theorem firstColumns_apply (x : FVec Ideal S1024x8 .f32) (r : Fin 1000) (k : Fin 4) :
    firstColumns x (ix2 r k) = x (ix2 (r.castLE (by decide)) (k.castLE (by decide))) := by
  pointwise [firstColumns]
  rfl
theorem fifthColumn_apply (x : FVec Ideal S1024x8 .f32) (r : Fin 1000) :
    fifthColumn x (ix1 r) = x (ix2 (r.castLE (by decide)) 4) := by
  pointwise [fifthColumn]
  rfl

/-- The kernel's program ends with the two results computed from its arguments, and with the arguments unchanged. -/
theorem results (ρ : Dev nD → PrngReg) : θ_run defs (onTc (τ := τ) (main (F := Ideal))) ⟨m, fun _ => 0, ρ⟩ (fun r => ∀ c : Dev nD,
      r.2.mem ((c.tc : Thread nD τ).loc main_v6) = firstColumns (regionVal m c)
      ∧ r.2.mem ((c.tc : Thread nD τ).loc main_v8) = fifthColumn (regionVal m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
    ((h c).2 main_v6 (Pipeline.mem_restRefs_of main_v6 (by decide) (by exact (by decide : ∀ w, Pipeline.arrRef spec0 w ≠ main_v6)))).trans (end_v6 m c),
    ((h c).2 main_v8 (Pipeline.mem_restRefs_of main_v8 (by decide) (by exact (by decide : ∀ w, Pipeline.arrRef spec0 w ≠ main_v8)))).trans (end_v8 m c),
    ((h c).2 main_arg0 (Pipeline.mem_restRefs_of main_arg0 (by decide) (by exact (by decide : ∀ w, Pipeline.arrRef spec0 w ≠ main_arg0)))).trans (W_main_arg0 m (dats 2049 m) c),
    ((h c).2 main_arg1 (Pipeline.mem_restRefs_of main_arg1 (by decide) (by exact (by decide : ∀ w, Pipeline.arrRef spec0 w ≠ main_arg1)))).trans (W_main_arg1 m (dats 2049 m) c)⟩)
    (run_main 2049 m ρ loopEnds)

end Cert.Proof.KRun

end
-- ==== Proof.Sorting.lean ====
/-
  Sorting by falling score, equal scores in their old order; and that sorting twice, as the reference does, gives the order
  that the kernel's rank counts.
-/
module

public import proofs.«01_k».proof.Proof.Greedy
public import Idealize.ShloMosaic.Lib.SortFacts
public import Idealize.ShloMosaic.Lib.PlanTiles.StableSort
public import Mathlib.Data.EReal.Basic

@[expose] public section

noncomputable section

/-! # Stable sorting, and how the two programs' orders meet

The reference sorts the candidates by score, removes the overlapped ones in that order, and sorts what is left again.
The kernel leaves the candidates where they are, removes in the order of the indices, and then counts for each candidate
how many come before it.  Because the candidates arrive in descending order of score, the two orders are the same. -/

namespace Cert.Proof.Sorting

open Idealize.ShloMosaic
open Classical

/-- `σ` lists the positions by descending key, equal keys in the order of the positions. -/
structure Sorted {N : ℕ} {α : Type} [LinearOrder α] (key : Fin N → α) (σ : Fin N → Fin N) : Prop where
  inj : Function.Injective σ
  surj : Function.Surjective σ
  lex : ∀ p q, p < q → key (σ q) < key (σ p) ∨ (key (σ p) = key (σ q) ∧ σ p < σ q)

section
variable {N : ℕ} {α : Type} [LinearOrder α] (key : Fin N → α)

/-- How many keys lie below a key. -/
def height (i : Fin N) : ℕ := (Finset.univ.filter fun j => key j < key i).card

theorem height_lt (i j : Fin N) : height key i < height key j ↔ key i < key j := by
  constructor
  · intro h
    by_contra hn
    refine absurd h (not_lt.mpr (Finset.card_le_card fun k hk => ?_))
    rw [Finset.mem_filter] at hk ⊢
    exact ⟨hk.1, lt_of_lt_of_le hk.2 (not_lt.mp hn)⟩
  · intro h
    refine Finset.card_lt_card ⟨fun k hk => ?_, fun hs => ?_⟩
    · rw [Finset.mem_filter] at hk ⊢
      exact ⟨hk.1, hk.2.trans h⟩
    · have := hs (Finset.mem_filter.mpr ⟨Finset.mem_univ i, h⟩)
      exact lt_irrefl _ (Finset.mem_filter.mp this).2

/-- The stable sort by descending key. -/
theorem sorted_sortedFrom (before : Fin N → Fin N → Bool) (hb : ∀ a b, before a b = true ↔ key b < key a) :
    Sorted key (sortedFrom before) := by
  have e : before = fun x y => decide (height key y < height key x) := by
    funext x y
    rw [Bool.eq_iff_iff, hb, decide_eq_true_iff, height_lt]
  subst e
  refine ⟨sortedFrom_injective _, sortedFrom_surjective _, fun p q hpq => ?_⟩
  have h := PlanTiles.pairwise_stableSort_lex (height key) (· < ·) (List.finRange N) (List.pairwise_lt_finRange N)
  have h2 := List.pairwise_iff_get.mp h (p.cast (length_sortPositions N _).symm) (q.cast (length_sortPositions N _).symm) hpq
  rcases h2 with h2 | ⟨h2, h3⟩
  · exact Or.inl ((height_lt key _ _).mp h2)
  · refine Or.inr ⟨le_antisymm (not_lt.mp fun h4 => ?_) (not_lt.mp fun h4 => ?_), h3⟩
    · exact absurd ((height_lt key _ _).mpr h4) (by have h5 := h2; exact not_lt.mpr (le_of_eq h5))
    · exact absurd ((height_lt key _ _).mpr h4) (by have h5 := h2; exact not_lt.mpr (le_of_eq h5.symm))

end

/-! ## The two orders -/

section
variable {N : ℕ} (S s : Fin N → EReal) (ov : Fin N → Fin N → Prop) (σ : Fin N → Fin N)

/-- The candidates that take part. -/
def live (i : Fin N) : Prop := s i ≠ ⊥

/-- Kept, removed, or never there. -/
def cls (i : Fin N) : ℕ := if Greedy.kept ov (live s) i then 0 else if live s i then 1 else 2

/-- One candidate stands before another in the result. -/
def Before (j i : Fin N) : Prop := cls s ov j < cls s ov i ∨ (cls s ov j = cls s ov i ∧ j < i)

theorem live_of_kept {i : Fin N} (h : Greedy.kept ov (live s) i) : live s i := ((Greedy.kept_iff _ _ i).mp h).1

variable (hS : ∀ i j, i ≤ j → S j ≤ S i) (hs : ∀ i, s i = S i ∨ s i = ⊥) (hσ : Sorted s σ)
include hS hs hσ

theorem pos_of_score {i j : Fin N} (hj : live s j) (h : s j < s i) : i < j := by
  have hi : live s i := fun e => by rw [e] at h; exact not_lt_bot h
  by_contra hn
  have h1 := hS j i (not_lt.mp hn)
  rcases hs i with e | e
  · rcases hs j with e' | e'
    · rw [e, e'] at h; exact absurd h (not_lt.mpr h1)
    · exact hj e'
  · exact hi e

theorem live_lt {p q : Fin N} (hpq : p < q) (hq : live s (σ q)) : live s (σ p) ∧ σ p < σ q := by
  rcases hσ.lex p q hpq with h | ⟨h, h'⟩
  · exact ⟨fun e => by rw [e] at h; exact not_lt_bot h, pos_of_score S s σ hS hs hσ hq h⟩
  · exact ⟨fun e => hq (h ▸ e), h'⟩

/-- Removing in the sorted order removes the same candidates. -/
theorem kept_sorted (p : Fin N) :
    Greedy.kept (fun a b => ov (σ a) (σ b)) (fun a => live s (σ a)) p ↔ Greedy.kept ov (live s) (σ p) := by
  have h : (fun p => Greedy.kept ov (live s) (σ p)) = Greedy.kept (fun a b => ov (σ a) (σ b)) (fun a => live s (σ a)) := by
    refine Greedy.eq_kept _ _ _ fun p => ?_
    rw [Greedy.kept_iff]
    refine and_congr_right fun hp => ⟨fun h q hq hk => h _ (live_lt S s σ hS hs hσ hq hp).2 hk, fun h j hj hk => ?_⟩
    obtain ⟨q, rfl⟩ := hσ.surj j
    refine h q ?_ hk
    rcases lt_trichotomy q p with h' | h' | h'
    · exact h'
    · subst h'; exact absurd hj (lt_irrefl _)
    · exact absurd hj (not_lt.mpr (le_of_lt (live_lt S s σ hS hs hσ h' (live_of_kept s ov hk)).2))
  exact (iff_of_eq (congrFun h p)).symm

variable (t : Fin N → EReal) (τ : Fin N → Fin N) (hτ : Sorted t τ)
  (ht : ∀ p, t p = if Greedy.kept ov (live s) (σ p) then s (σ p) else ⊥)
include hτ ht

/-- The reference's two sortings list the candidates in the order `Before`. -/
theorem before_of_lt {p q : Fin N} (hpq : p < q) : Before s ov (σ (τ p)) (σ (τ q)) := by
  unfold Before cls
  rcases hτ.lex p q hpq with h | ⟨h, h'⟩
  · rw [ht, ht] at h
    by_cases kp : Greedy.kept ov (live s) (σ (τ p))
    · by_cases kq : Greedy.kept ov (live s) (σ (τ q))
      · rw [if_pos kp, if_pos kq] at h ⊢
        exact Or.inr ⟨rfl, pos_of_score S s σ hS hs hσ (live_of_kept s ov kq) h⟩
      · left; rw [if_pos kp, if_neg kq]; split <;> omega
    · rw [if_neg kp] at h; exact absurd h not_lt_bot
  · rw [ht, ht] at h
    by_cases kp : Greedy.kept ov (live s) (σ (τ p)) <;> by_cases kq : Greedy.kept ov (live s) (σ (τ q))
    · rw [if_pos kp, if_pos kq]
      exact Or.inr ⟨rfl, (live_lt S s σ hS hs hσ h' (live_of_kept s ov kq)).2⟩
    · rw [if_pos kp, if_neg kq] at h; exact absurd h (live_of_kept s ov kp)
    · rw [if_neg kp, if_pos kq] at h; exact absurd h.symm (live_of_kept s ov kq)
    · rw [if_neg kp, if_neg kq]
      by_cases lq : live s (σ (τ q))
      · have := live_lt S s σ hS hs hσ h' lq
        rw [if_pos this.1, if_pos lq]
        exact Or.inr ⟨rfl, this.2⟩
      · by_cases lp : live s (σ (τ p))
        · rw [if_pos lp, if_neg lq]; left; omega
        · rw [if_neg lp, if_neg lq]
          refine Or.inr ⟨rfl, ?_⟩
          have ep : s (σ (τ p)) = ⊥ := not_not.mp lp
          have eq : s (σ (τ q)) = ⊥ := not_not.mp lq
          rcases hσ.lex _ _ h' with h2 | ⟨-, h2⟩
          · rw [ep, eq] at h2; exact absurd h2 (lt_irrefl _)
          · exact h2

/-- The candidate that ends in row `r` has exactly `r` candidates before it. -/
theorem card_before (r : Fin N) : (Finset.univ.filter fun j => Before s ov j (σ (τ r))).card = r.val := by
  have e : (Finset.univ.filter fun j => Before s ov j (σ (τ r))) = (Finset.Iio r).image (fun p => σ (τ p)) := by
    ext j
    rw [Finset.mem_filter, Finset.mem_image]
    constructor
    · rintro ⟨-, hj⟩
      obtain ⟨q, rfl⟩ := hσ.surj j
      obtain ⟨p, rfl⟩ := hτ.surj q
      refine ⟨p, Finset.mem_Iio.mpr ?_, rfl⟩
      rcases lt_trichotomy p r with h | h | h
      · exact h
      · subst h; unfold Before at hj; rcases hj with h | ⟨-, h⟩ <;> exact absurd h (lt_irrefl _)
      · have := before_of_lt S s ov σ hS hs hσ t τ hτ ht h
        unfold Before at hj this
        omega
    · rintro ⟨p, hp, rfl⟩
      exact ⟨Finset.mem_univ _, before_of_lt S s ov σ hS hs hσ t τ hτ ht (Finset.mem_Iio.mp hp)⟩
  rw [e]
  exact (Finset.card_image_of_injective _ (hσ.inj.comp hτ.inj)).trans (Fin.card_Iio r)

/-- Only that candidate has exactly `r` before it. -/
theorem eq_of_card_before (r i : Fin N) (h : (Finset.univ.filter fun j => Before s ov j i).card = r.val) : i = σ (τ r) := by
  obtain ⟨q, rfl⟩ := hσ.surj i
  obtain ⟨p, rfl⟩ := hτ.surj q
  rw [card_before S s ov σ hS hs hσ t τ hτ ht p] at h
  rw [Fin.ext h]

end

end Cert.Proof.Sorting

end
-- ==== Proof.Padding.lean ====
/-
  The kernel works on 2048 positions, of which the last 48 hold no candidate. They are never eligible, and they rank
  after the 2000 others.
-/
module

public import proofs.«01_k».proof.Proof.KBlock
public import proofs.«01_k».proof.Proof.Sorting

@[expose] public section

set_option maxRecDepth 16384

noncomputable section

namespace Cert.Proof.Padding

open Cert.Proof.KRun (comesBefore rank)
open Cert.Proof.Sorting
open Classical

/-- A candidate's position among the 2048. -/
def up (i : Fin 2000) : Fin 2048 := ⟨i.val, by omega⟩

theorem up_lt (i j : Fin 2000) : up i < up j ↔ i < j := Iff.rfl

theorem up_inj : Function.Injective up := fun _ _ h => Fin.ext (Fin.mk.inj h)

/-- A position is a candidate's or one of the last 48. -/
theorem up_or (x : Fin 2048) : (∃ i, x = up i) ∨ 2000 ≤ x.val := by
  by_cases h : x.val < 2000
  · exact Or.inl ⟨⟨x.val, h⟩, rfl⟩
  · exact Or.inr (not_lt.mp h)

variable (s : Fin 2000 → EReal) (ov : Fin 2000 → Fin 2000 → Prop)
variable (L : Fin 2048 → Prop) (sup : Fin 2048 → Fin 2048 → Prop)
variable (hL : ∀ i, L (up i) ↔ live s i) (hp : ∀ x : Fin 2048, 2000 ≤ x.val → ¬ L x) (hov : ∀ i j, sup (up i) (up j) ↔ ov i j)
include hL hp hov

/-- The same candidates are kept. -/
theorem kept_up (i : Fin 2000) : Greedy.kept sup L (up i) ↔ Greedy.kept ov (live s) i := by
  have h : (fun i => Greedy.kept sup L (up i)) = Greedy.kept ov (live s) := by
    refine Greedy.eq_kept _ _ _ fun i => ?_
    rw [Greedy.kept_iff, hL]
    refine and_congr_right fun _ => ⟨fun h j hj hk hs => h (up j) hj hk ((hov j i).mpr hs), fun h x hx hk hs => ?_⟩
    rcases up_or x with ⟨j, rfl⟩ | hx'
    · exact h j hx hk ((hov j i).mp hs)
    · exact hp x hx' ((Greedy.kept_iff _ _ x).mp hk).1
  exact iff_of_eq (congrFun h i)

/-- The same candidates come before. -/
theorem before_up (i j : Fin 2000) : comesBefore L (Greedy.kept sup L) (up j) (up i) ↔ Before s ov j i := by
  have ki := kept_up s ov L sup hL hp hov i
  have kj := kept_up s ov L sup hL hp hov j
  have li := live_of_kept s ov (i := i)
  have lj := live_of_kept s ov (i := j)
  unfold comesBefore Before cls
  rw [ki, kj, hL, hL, up_lt]
  by_cases h1 : Greedy.kept ov (live s) i <;> by_cases h2 : Greedy.kept ov (live s) j <;>
    by_cases h3 : live s i <;> by_cases h4 : live s j <;> simp_all

/-- A candidate ranks as many positions below it as there are candidates before it. -/
theorem rank_up (i : Fin 2000) : rank L (Greedy.kept sup L) (up i) = (Finset.univ.filter fun j => Before s ov j i).card := by
  unfold rank
  have e : (Finset.univ.filter fun x => comesBefore L (Greedy.kept sup L) x (up i)) = (Finset.univ.filter fun j => Before s ov j i).map ⟨up, up_inj⟩ := by
    ext x
    rw [Finset.mem_filter, Finset.mem_map]
    constructor
    · rintro ⟨-, hx⟩
      rcases up_or x with ⟨j, rfl⟩ | hx'
      · exact ⟨j, Finset.mem_filter.mpr ⟨Finset.mem_univ _, (before_up s ov L sup hL hp hov i j).mp hx⟩, rfl⟩
      · exfalso
        have l := hp x hx'
        have k : ¬ Greedy.kept sup L x := fun k => l ((Greedy.kept_iff _ _ x).mp k).1
        have lt : ¬ x < up i := fun h => by
          have h1 : x.val < i.val := h
          have h2 := i.isLt
          omega
        simp [comesBefore, l, k, lt] at hx
    · rintro ⟨j, hj, rfl⟩
      exact ⟨Finset.mem_univ _, (before_up s ov L sup hL hp hov i j).mpr (Finset.mem_filter.mp hj).2⟩
  rw [e, Finset.card_map]

/-- The last 48 positions rank after every candidate. -/
theorem rank_last (x : Fin 2048) (hx : 2000 ≤ x.val) : 2000 ≤ rank L (Greedy.kept sup L) x := by
  unfold rank
  have hc : ((Finset.univ : Finset (Fin 2000)).map ⟨up, up_inj⟩).card = 2000 := by
    rw [Finset.card_map, Finset.card_univ, Fintype.card_fin]
  rw [← hc]
  refine Finset.card_le_card fun y hy => ?_
  obtain ⟨j, -, rfl⟩ := Finset.mem_map.mp hy
  refine Finset.mem_filter.mpr ⟨Finset.mem_univ _, ?_⟩
  have l := hp x hx
  have lt : up j < x := Fin.lt_def.mpr (lt_of_lt_of_le (show (up j).val < 2000 from j.isLt) hx)
  show comesBefore L (Greedy.kept sup L) (up j) x
  by_cases h1 : Greedy.kept sup L (up j) <;> by_cases h2 : L (up j) <;> simp [comesBefore, l, lt, h1, h2]

variable (S : Fin 2000 → EReal) (σ : Fin 2000 → Fin 2000) (hS : ∀ i j, i ≤ j → S j ≤ S i) (hs : ∀ i, s i = S i ∨ s i = ⊥) (hσ : Sorted s σ)
variable (t : Fin 2000 → EReal) (τ : Fin 2000 → Fin 2000) (hτ : Sorted t τ)
  (ht : ∀ p, t p = if Greedy.kept ov (live s) (σ p) then s (σ p) else ⊥)
include hS hs hσ hτ ht

/-- The position of rank `r` is the candidate the two sortings put at place `r`. -/
theorem rank_iff (r : Fin 2000) (x : Fin 2048) : rank L (Greedy.kept sup L) x = r.val ↔ up (σ (τ r)) = x := by
  constructor
  · intro h
    rcases up_or x with ⟨i, rfl⟩ | hx
    · rw [rank_up s ov L sup hL hp hov] at h
      rw [eq_of_card_before S s ov σ hS hs hσ t τ hτ ht r i h]
    · have h1 := rank_last s ov L sup hL hp hov x hx
      have h2 := r.isLt
      omega
  · rintro rfl
    rw [rank_up s ov L sup hL hp hov, card_before S s ov σ hS hs hσ t τ hτ ht r]

end Cert.Proof.Padding

end
-- ==== Proof.Takes.lean ====
/-
  What a sorting's indices and the rows taken at them hold, entry by entry.
-/
module

public import proofs.«01_k».proof.Proof.RRead
public import proofs.«01_k».proof.Proof.Sorting
public import Idealize.ShloMosaic.Lib.Pointwise
public import Idealize.ShloMosaic.Lib.ReduceAll
public import Idealize.ShloMosaic.Lib.Routing.Ops
public import Idealize.ShloMosaic.Lib.StableHlo.Predicate

@[expose] public section

set_option maxRecDepth 16384

noncomputable section

/-! # The sortings and the takes, entry by entry -/

namespace Cert.Proof.RRun

open Cert.ReferenceIdeal Cert.ReferenceIdeal.Gen
open Idealize.ShloMosaic hiding ix1 ix2 ix3 eq_ix1 eq_ix2 eq_ix3
open Idealize.ShloMosaic.ValueIdx

theorem ofFin_eq {n : ℕ} (k : Fin n) : Shape.Idx.ofFin k = ix1 k := by
  rw [eq_ix1 (Shape.Idx.ofFin k)]
  rfl

/-! ## Sorting a row together with its positions -/

section
variable {n : ℕ} {α β : Type} (cmp : α × β → α × β → BitVec 1) (x : (⟨1, ![n]⟩ : Shape).Idx → α) (y : (⟨1, ![n]⟩ : Shape).Idx → β)

/-- The position each entry of the sorted row comes from. -/
def source (j : Fin n) : Fin n :=
  sortedFrom (fun k k' => cmp (x (ix1 k), y (ix1 k)) (x (ix1 k'), y (ix1 k')) == 1#1) j

theorem sort2_fst (j : Fin n) : (Host.sort2 ⟨1, ![n]⟩ 0 cmp x y).1 (ix1 j) = x (ix1 (source cmp x y j)) := by
  unfold Host.sort2 source
  simp [ofFin_eq]

theorem sort2_snd (j : Fin n) : (Host.sort2 ⟨1, ![n]⟩ 0 cmp x y).2 (ix1 j) = y (ix1 (source cmp x y j)) := by
  unfold Host.sort2 source
  simp [ofFin_eq]
end

/-- Where the entries of a row go when it is sorted descendingly. -/
def descend {n : ℕ} (x : FVec Ideal ⟨1, ![n]⟩ .f32) : Fin n → Fin n :=
  source (fun l r : Ideal .f32 × BitVec 32 => FloatOps.cmpfTotal .gt l.1 r.1) x (fun i => BitVec.ofNat 32 (i 0).val)

theorem sorted_descend {n : ℕ} (x : FVec Ideal ⟨1, ![n]⟩ .f32) : Sorting.Sorted (fun k => (x (ix1 k) : EReal)) (descend x) := by
  refine Sorting.sorted_sortedFrom _ _ fun a b => ?_
  rw [beq_iff_eq]
  show BitVec.ofBool (decide ((x (ix1 b) : EReal) < x (ix1 a))) = 1#1 ↔ _
  by_cases h : (x (ix1 b) : EReal) < x (ix1 a) <;> simp [h]

theorem topK_fst {n k : ℕ} (hk : k ≤ n) (x : FVec Ideal ⟨1, ![n]⟩ .f32) (h : (⟨1, ![n]⟩ : Shape).Slices (fun _ => 0) ⟨1, ![k]⟩) (j : Fin k) :
    (Host.topK ⟨1, ![k]⟩ 0 (FloatOps.cmpfTotal .gt) x h).1 (ix1 j) = x (ix1 (descend x (j.castLE hk))) := by
  have e := sort2_fst (fun l r : Ideal .f32 × BitVec 32 => FloatOps.cmpfTotal .gt l.1 r.1) x (fun i => BitVec.ofNat 32 (i 0).val) (j.castLE hk)
  refine Eq.trans (congrArg (Host.sort2 ⟨1, ![n]⟩ 0 (fun l r : Ideal .f32 × BitVec 32 => FloatOps.cmpfTotal .gt l.1 r.1) x
    (fun i => BitVec.ofNat 32 (i 0).val)).1 ?_) e
  refine (eq_ix1 _).trans (congrArg ix1 ?_)
  exact Fin.ext (Nat.zero_add _)

theorem topK_snd {n k : ℕ} (hk : k ≤ n) (x : FVec Ideal ⟨1, ![n]⟩ .f32) (h : (⟨1, ![n]⟩ : Shape).Slices (fun _ => 0) ⟨1, ![k]⟩) (j : Fin k) :
    (Host.topK ⟨1, ![k]⟩ 0 (FloatOps.cmpfTotal .gt) x h).2 (ix1 j) = BitVec.ofNat 32 (descend x (j.castLE hk)).val := by
  have e := sort2_snd (fun l r : Ideal .f32 × BitVec 32 => FloatOps.cmpfTotal .gt l.1 r.1) x (fun i => BitVec.ofNat 32 (i 0).val) (j.castLE hk)
  refine Eq.trans (congrArg (Host.sort2 ⟨1, ![n]⟩ 0 (fun l r : Ideal .f32 × BitVec 32 => FloatOps.cmpfTotal .gt l.1 r.1) x
    (fun i => BitVec.ofNat 32 (i 0).val)).2 ?_) e
  refine (eq_ix1 _).trans (congrArg ix1 ?_)
  exact Fin.ext (Nat.zero_add _)

theorem topScores_apply (s : FVec Ideal S20000 .f32) (p : Fin 2000) :
    topScores s (ix1 p) = s (ix1 (descend (n := 20000) s (p.castLE (by decide)))) := topK_fst _ s _ p

theorem outScores_apply (s : FVec Ideal S2000 .f32) (r : Fin 1000) :
    outScores s (ix1 r) = s (ix1 (descend (n := 2000) s (r.castLE (by decide)))) := topK_fst _ s _ r

theorem outIndices_apply (s : FVec Ideal S2000 .f32) (r : Fin 1000) :
    outIndices s (ix1 r) = BitVec.ofNat 32 (descend (n := 2000) s (r.castLE (by decide))).val := topK_snd _ s _ r

/-- The selected scores do not increase. -/
theorem topScores_anti (s : FVec Ideal S20000 .f32) (i j : Fin 2000) (h : i ≤ j) : (topScores s (ix1 j) : EReal) ≤ topScores s (ix1 i) := by
  rcases eq_or_lt_of_le h with h | h
  · subst h; exact le_refl _
  · rw [topScores_apply, topScores_apply]
    rcases (sorted_descend (n := 20000) s).lex (i.castLE (by decide)) (j.castLE (by decide)) h with h' | ⟨h', -⟩
    · exact le_of_lt h'
    · exact le_of_eq h'.symm

/-- The positions in the order the reference removes boxes. -/
def orderPos (s : FVec Ideal S2000 .f32) : Fin 2000 → Fin 2000 :=
  source (n := 2000) comparator_f32_i32_d0 (Host.negf s) (iotaInDim S2000 32 0)

theorem order_apply (s : FVec Ideal S2000 .f32) (p : Fin 2000) : order s (ix1 p) = BitVec.ofNat 32 (orderPos s p).val :=
  sort2_snd (n := 2000) comparator_f32_i32_d0 (Host.negf s) (iotaInDim S2000 32 0) p

theorem canonical (v z n : EReal) : (if (v ≠ v : Prop) then n else if v = z then z else v) = v := by
  rw [if_neg (fun h => h rfl)]
  split
  · next h => exact h.symm
  · rfl

theorem select_decide (p : Prop) [Decidable p] (x y : EReal) : Scalar.select (BitVec.ofBool (decide p)) x y = if p then x else y := by
  by_cases h : p
  · rw [decide_eq_true h, if_pos h]; rfl
  · rw [decide_eq_false h, if_neg h]; rfl

/-- The order of two keys, zeros and non-numbers first replaced by `z` and `n`. -/
def keyLt (z n : Ideal .f32) (a b : Ideal .f32) : BitVec 1 :=
  FloatOps.cmpfTotal .lt (Scalar.select (FloatOps.cmpf .une a a) n (Scalar.select (FloatOps.cmpf .oeq a z) z a))
    (Scalar.select (FloatOps.cmpf .une b b) n (Scalar.select (FloatOps.cmpf .oeq b z) z b))

theorem keyLt_iff (z n a b : Ideal .f32) : keyLt z n a b = 1#1 ↔ (a : EReal) < b := by
  have can : ∀ v : Ideal .f32, Scalar.select (FloatOps.cmpf .une v v) n (Scalar.select (FloatOps.cmpf .oeq v z) z v) = v := by
    intro v
    refine Eq.trans ?_ (canonical v z n)
    refine (select_decide ((v : EReal) ≠ v) n _).trans ?_
    congr 1
    exact select_decide ((v : EReal) = z) z v
  unfold keyLt
  rw [can a, can b]
  show BitVec.ofBool (decide ((a : EReal) < b)) = 1#1 ↔ _
  by_cases h : (a : EReal) < b <;> simp [h]

theorem comparator_eq (l r : Ideal .f32 × BitVec 32) :
    comparator_f32_i32_d0 (F := Ideal) l r = keyLt (FloatOps.ofBits .f32 0x00000000#32) (FloatOps.ofBits .f32 0x7FC00000#32) l.1 r.1 := rfl

theorem comparator_iff (l r : Ideal .f32 × BitVec 32) :
    comparator_f32_i32_d0 (F := Ideal) l r = 1#1 ↔ (l.1 : EReal) < r.1 := by
  rw [comparator_eq]
  exact keyLt_iff _ _ _ _

theorem sorted_orderPos (s : FVec Ideal S2000 .f32) : Sorting.Sorted (fun k => (s (ix1 k) : EReal)) (orderPos s) := by
  unfold orderPos source
  refine Sorting.sorted_sortedFrom _ _ fun a b => ?_
  rw [beq_iff_eq, comparator_iff]
  show (-(s (ix1 a) : EReal) < -(s (ix1 b) : EReal)) ↔ _
  exact EReal.neg_lt_neg_iff

/-! ## Takes at positions that are in range -/

/-- A word below a bound that fits is that number. -/
theorem toInt_small {k : ℕ} (hk : k < 2 ^ 31) : (BitVec.ofNat 32 k).toInt = (k : ℤ) := by
  rw [BitVec.toInt_eq_toNat_of_lt]
  · rw [BitVec.toNat_ofNat, Nat.mod_eq_of_lt (by omega)]
  · rw [BitVec.toNat_ofNat, Nat.mod_eq_of_lt (by omega)]; omega

theorem wrap_small (n k : ℕ) (hk : k < 2 ^ 31) :
    Scalar.select (IntOp.cmpi .slt (BitVec.ofNat 32 k) 0#32) (IntOp.addi (BitVec.ofNat 32 k) (BitVec.ofNat 32 n)) (BitVec.ofNat 32 k)
      = BitVec.ofNat 32 k := by
  have h : IntOp.cmpi .slt (BitVec.ofNat 32 k) 0#32 = 0#1 := by
    show BitVec.ofBool ((BitVec.ofNat 32 k).slt 0#32) = 0#1
    rw [BitVec.slt, toInt_small hk, show (0#32 : BitVec 32).toInt = 0 from by decide, decide_eq_false (by omega)]
    rfl
  rw [h]; rfl

theorem range_small (n k : ℕ) (hk : k ≤ n) (hn : n < 2 ^ 31) :
    IntOp.andi (IntOp.cmpi .sge (BitVec.ofNat 32 k) 0#32) (IntOp.cmpi .sle (BitVec.ofNat 32 k) (BitVec.ofNat 32 n)) = 1#1 := by
  have h1 : IntOp.cmpi .sge (BitVec.ofNat 32 k) 0#32 = 1#1 := by
    show BitVec.ofBool ((0#32).sle (BitVec.ofNat 32 k)) = 1#1
    rw [BitVec.sle, toInt_small (k := k) (by omega), show (0#32 : BitVec 32).toInt = 0 from by decide, decide_eq_true (by omega)]
    rfl
  have h2 : IntOp.cmpi .sle (BitVec.ofNat 32 k) (BitVec.ofNat 32 n) = 1#1 := by
    show BitVec.ofBool ((BitVec.ofNat 32 k).sle (BitVec.ofNat 32 n)) = 1#1
    rw [BitVec.sle, toInt_small (by omega), toInt_small hn]
    simp [hk]
  rw [h1, h2]; rfl

theorem wrap_id (i : IVec S2000 32) (f : Fin 2000 → Fin 2000) (hi : ∀ p, i (ix1 p) = BitVec.ofNat 32 (f p).val) : wrap 2000#32 i = i := by
  funext j
  obtain ⟨p, rfl⟩ : ∃ p : Fin 2000, j = ix1 p := ⟨j 0, eq_ix1 j⟩
  show Scalar.select (IntOp.cmpi .slt (i (ix1 p)) 0#32) (IntOp.addi (i (ix1 p)) 2000#32) (i (ix1 p)) = i (ix1 p)
  rw [hi]
  exact wrap_small 2000 _ (by have := (f p).isLt; omega)

theorem within_all (i : IVec S2000 32) (f : Fin 2000 → Fin 2000) (hi : ∀ p, i (ix1 p) = BitVec.ofNat 32 (f p).val) (j : S2000.Idx) :
    within 1999#32 (column i) j = 1#1 := by
  refine Host.reduce_andi_one _ _ _ _ _ rfl fun q => ?_
  obtain ⟨p, hp⟩ : ∃ p : Fin 2000, column i q = i (ix1 p) := ⟨(q 0), congrArg i (eq_ix1 _)⟩
  show IntOp.andi (IntOp.cmpi .sge (column i q) 0#32) (IntOp.cmpi .sle (column i q) 1999#32) = 1#1
  rw [hp, hi]
  exact range_small 1999 _ (by have := (f p).isLt; omega) (by decide)

theorem takeRows_apply (x : FVec Ideal S2000x4 .f32) (i : IVec S2000 32) (f : Fin 2000 → Fin 2000)
    (hi : ∀ p, i (ix1 p) = BitVec.ofNat 32 (f p).val) (p : Fin 2000) (c : Fin 4) : takeRows x i (ix2 p c) = x (ix2 (f p) c) := by
  unfold takeRows
  rw [wrap_id i f hi]
  show Scalar.select (within 1999#32 (column i) _) (Host.gather _ x (column i) (ix2 p c)) _ = _
  rw [within_all i f hi]
  exact Routing.gather_row _ rfl rfl rfl rfl rfl x (column i) p c (f p) ((congrArg i (eq_ix1 _)).trans (hi p)) (by decide)

theorem takeScores_apply (x : FVec Ideal S2000 .f32) (i : IVec S2000 32) (f : Fin 2000 → Fin 2000)
    (hi : ∀ p, i (ix1 p) = BitVec.ofNat 32 (f p).val) (p : Fin 2000) : takeScores x i (ix1 p) = x (ix1 (f p)) := by
  unfold takeScores
  rw [wrap_id i f hi]
  show Scalar.select (within 1999#32 (column i) _) (Host.gather _ x (column i) (ix1 p)) _ = _
  rw [within_all i f hi]
  show Host.gather gather_S2000_S2000x1_S2000_n_0_n_n_0_1_1 x (column i) (ix1 p) = _
  rw [← ofFin_eq p, StableHlo.Predicate.gather_take _ rfl rfl rfl rfl x (column i) p (by decide), ofFin_eq]
  congr 2
  refine Fin.ext ?_
  show min (column i _).toInt.toNat 1999 = _
  rw [show column i (StableHlo.Predicate.ixP p) = i (ix1 p) from congrArg i (eq_ix1 _), hi, toInt_small (by have := (f p).isLt; omega)]
  have := (f p).isLt
  simp; omega

theorem wrapOut_id (i : IVec S1000 32) (f : Fin 1000 → Fin 2000) (hi : ∀ p, i (ix1 p) = BitVec.ofNat 32 (f p).val) : wrapOut i = i := by
  funext j
  obtain ⟨p, rfl⟩ : ∃ p : Fin 1000, j = ix1 p := ⟨j 0, eq_ix1 j⟩
  show Scalar.select (IntOp.cmpi .slt (i (ix1 p)) 0#32) (IntOp.addi (i (ix1 p)) 2000#32) (i (ix1 p)) = i (ix1 p)
  rw [hi]
  exact wrap_small 2000 _ (by have := (f p).isLt; omega)

theorem withinOut_all (i : IVec S1000 32) (f : Fin 1000 → Fin 2000) (hi : ∀ p, i (ix1 p) = BitVec.ofNat 32 (f p).val) (j : S1000.Idx) :
    withinOut (columnOut i) j = 1#1 := by
  refine Host.reduce_andi_one _ _ _ _ _ rfl fun q => ?_
  obtain ⟨p, hp⟩ : ∃ p : Fin 1000, columnOut i q = i (ix1 p) := ⟨(q 0), congrArg i (eq_ix1 _)⟩
  show IntOp.andi (IntOp.cmpi .sge (columnOut i q) 0#32) (IntOp.cmpi .sle (columnOut i q) 1999#32) = 1#1
  rw [hp, hi]
  exact range_small 1999 _ (by have := (f p).isLt; omega) (by decide)

theorem takeOut_apply (x : FVec Ideal S2000x4 .f32) (i : IVec S1000 32) (f : Fin 1000 → Fin 2000)
    (hi : ∀ p, i (ix1 p) = BitVec.ofNat 32 (f p).val) (p : Fin 1000) (c : Fin 4) : takeOut x i (ix2 p c) = x (ix2 (f p) c) := by
  unfold takeOut
  rw [wrapOut_id i f hi]
  show Scalar.select (withinOut (columnOut i) _) (Host.gather _ x (columnOut i) (ix2 p c)) _ = _
  rw [withinOut_all i f hi]
  exact Routing.gather_row _ rfl rfl rfl rfl rfl x (columnOut i) p c (f p) ((congrArg i (eq_ix1 _)).trans (hi p)) (by decide)

end Cert.Proof.RRun

end
-- ==== Proof.RPoint.lean ====
/-
  The reference's steps, read at one candidate or at one pair of them.
-/
module

public import proofs.«01_k».proof.Proof.RRead
public import proofs.«01_k».proof.Proof.KBlock

@[expose] public section

set_option maxRecDepth 16384

noncomputable section

/-! # The reference's boxes, scores and overlaps, entry by entry

They are written with the same functions of single numbers as the kernel's. -/

namespace Cert.Proof.RRun

open Cert.ReferenceIdeal Cert.ReferenceIdeal.Gen
open Idealize.ShloMosaic
open Cert.Proof.KRun (clipTo wide scoreOf shared close)

theorem clip_apply (x : FVec Ideal S2000 .f32) (p : Fin 2000) : clip x (ix1 p) = clipTo (x (ix1 p)) := by
  pointwise [clip]
  rfl

theorem col0_apply (x : FVec Ideal S2000x4 .f32) (p : Fin 2000) : col0 x (ix1 p) = x (ix2 p 0) := by
  pointwise [col0]
theorem col1_apply (x : FVec Ideal S2000x4 .f32) (p : Fin 2000) : col1 x (ix1 p) = x (ix2 p 1) := by
  pointwise [col1]
theorem col2_apply (x : FVec Ideal S2000x4 .f32) (p : Fin 2000) : col2 x (ix1 p) = x (ix2 p 2) := by
  pointwise [col2]
theorem col3_apply (x : FVec Ideal S2000x4 .f32) (p : Fin 2000) : col3 x (ix1 p) = x (ix2 p 3) := by
  pointwise [col3]

/-- An entry of the clipped boxes. -/
theorem clipped_apply (x : FVec Ideal S2000x4 .f32) (p : Fin 2000) (c : Fin 4) : clipped x (ix2 p c) = clipTo (x (ix2 p c)) := by
  fin_cases c
  · show clipped x (ix2 p 0) = clipTo (x (ix2 p 0))
    pointwise [clipped, colUp]
    rw [clip_apply, col0_apply]
  · show clipped x (ix2 p 1) = clipTo (x (ix2 p 1))
    pointwise [clipped, colUp]
    rw [clip_apply, col1_apply]
  · show clipped x (ix2 p 2) = clipTo (x (ix2 p 2))
    pointwise [clipped, colUp]
    rw [clip_apply, col2_apply]
  · show clipped x (ix2 p 3) = clipTo (x (ix2 p 3))
    pointwise [clipped, colUp]
    rw [clip_apply, col3_apply]

/-- A score masked by a bit. -/
theorem masked_apply (w : IVec S2000 1) (s : FVec Ideal S2000 .f32) (p : Fin 2000) :
    masked w s (ix1 p) = if w (ix1 p) = 1#1 then s (ix1 p) else ⊥ := by
  show Scalar.select (w (ix1 p)) (s (ix1 p)) (Ideal.ofBits .f32 0xFF800000#32) = _
  rw [KRun.neg_inf]
  rcases BitVec.eq_zero_or_eq_one (w (ix1 p)) with h | h <;> rw [h] <;> rfl

/-- The size test at one box. -/
theorem large_iff (b : FVec Ideal S2000x4 .f32) (p : Fin 2000) : large b (ix1 p) = 1#1
    ↔ Ideal.ofBits .f32 0x3A83126F#32 ≤ (b (ix2 p 2) - b (ix2 p 0) : EReal) ∧ Ideal.ofBits .f32 0x3A83126F#32 ≤ (b (ix2 p 3) - b (ix2 p 1) : EReal) := by
  have e : large b (ix1 p) = IntOp.andi (BitVec.ofBool (decide (Ideal.ofBits .f32 0x3A83126F#32 ≤ (col2 b (ix1 p) - col0 b (ix1 p) : EReal))))
      (BitVec.ofBool (decide (Ideal.ofBits .f32 0x3A83126F#32 ≤ (col3 b (ix1 p) - col1 b (ix1 p) : EReal)))) := by
    unfold large
    pointwise
  rw [e, KRun.andi_eq_one, KRun.ofBool_decide_eq_one, KRun.ofBool_decide_eq_one, col0_apply, col1_apply, col2_apply, col3_apply]

/-- A candidate's masked score is the one the kernel forms. -/
theorem score_apply (x : FVec Ideal S2000x4 .f32) (s : FVec Ideal S2000 .f32) (p : Fin 2000) :
    masked (large (clipped x)) s (ix1 p) = scoreOf (x (ix2 p 0)) (x (ix2 p 1)) (x (ix2 p 2)) (x (ix2 p 3)) (s (ix1 p)) := by
  rw [masked_apply]
  haveI : Decidable (wide (x (ix2 p 0)) (x (ix2 p 1)) (x (ix2 p 2)) (x (ix2 p 3))) := Classical.dec _
  refine (if_congr ?_ rfl rfl).trans (KRun.scoreOf_eq _ _ _ _ _).symm
  unfold wide
  rw [large_iff, clipped_apply, clipped_apply, clipped_apply, clipped_apply]

/-- The finiteness test at one score. -/
theorem finite_iff (s : FVec Ideal S2000 .f32) (p : Fin 2000) : finite s (ix1 p) = 1#1 ↔ (s (ix1 p) : EReal) ≠ ⊤ ∧ (s (ix1 p) : EReal) ≠ ⊥ := by
  have e : finite s (ix1 p) = BitVec.ofBool (decide (max (s (ix1 p) : EReal) (-(s (ix1 p))) < Ideal.ofBits .f32 0x7F800000#32)) := by
    unfold finite
    pointwise
    rfl
  rw [e, KRun.ofBool_decide_eq_one, show Ideal.ofBits .f32 0x7F800000#32 = ⊤ from by simp [Ideal.ofBits, Ideal.ieee], max_lt_iff, lt_top_iff_ne_top,
    lt_top_iff_ne_top]
  refine and_congr_right fun _ => not_congr ?_
  exact EReal.neg_eq_top_iff

/-- The area of one box. -/
theorem area_apply (b : FVec Ideal S2000x4 .f32) (p : Fin 2000) :
    area b (ix1 p) = (b (ix2 p 2) - b (ix2 p 0)) * (b (ix2 p 3) - b (ix2 p 1)) := by
  have e : area b (ix1 p) = (col2 b (ix1 p) - col0 b (ix1 p)) * (col3 b (ix1 p) - col1 b (ix1 p)) := rfl
  rw [e, col0_apply, col1_apply, col2_apply, col3_apply]

/-- The area two boxes share. -/
theorem inter_apply (b : FVec Ideal S2000x4 .f32) (q j : Fin 2000) : inter b (ix2 q j)
    = shared (b (ix2 q 0)) (b (ix2 q 1)) (b (ix2 q 2)) (b (ix2 q 3)) (b (ix2 j 0)) (b (ix2 j 1)) (b (ix2 j 2)) (b (ix2 j 3)) := by
  pointwise [inter, sides, pairRow, pairCol, low, high]
  unfold shared
  rw [max_comm, max_comm (0 : EReal)]

/-- The overlap of two boxes. -/
theorem iou_apply (b : FVec Ideal S2000x4 .f32) (q j : Fin 2000) : iou b (ix2 q j)
    = Ideal.div (inter b (ix2 q j)) (area b (ix1 q) + area b (ix1 j) - inter b (ix2 q j) + Ideal.ofBits .f32 0x3089705F#32) := by
  unfold iou
  pointwise

end Cert.Proof.RRun

end
-- ==== Proof.RLoop.lean ====
/-
  The reference's loop of 2000 trips: what a trip does to the kept places, and that the last one leaves the greedy answer.
-/
module

public import proofs.«01_k».proof.Proof.RRead
public import proofs.«01_k».proof.Proof.KEnds

@[expose] public section

set_option maxRecDepth 16384

noncomputable section

/-! # What the reference's loop computes

Trip `k` of the loop drops every box after box `k` that box `k` covers, if box `k` is itself still there.  After all trips
the boxes still there are the greedily kept ones. -/

namespace Cert.Proof.RRun

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL.Sem

/-! ## The loop over propositions -/

/-- The boxes still there before trip `k`. -/
def keepAt {N : ℕ} (over : Fin N → Fin N → Prop) (f : Fin N → Prop) : ℕ → Fin N → Prop
  | 0 => f
  | k + 1 => fun j => keepAt over f k j ∧ ¬ ∃ q : Fin N, q.val = k ∧ over q j ∧ keepAt over f k q ∧ q < j

theorem keepAt_iff {N : ℕ} (over : Fin N → Fin N → Prop) (f : Fin N → Prop) (k : ℕ) (j : Fin N) :
    keepAt over f k j ↔ f j ∧ ∀ q : Fin N, q.val < k → q < j → Greedy.kept over f q → ¬ over q j := by
  induction k generalizing j with
  | zero => simp [keepAt]
  | succ k ih =>
    have hk : ∀ q : Fin N, q.val = k → (keepAt over f k q ↔ Greedy.kept over f q) := by
      intro q hq
      rw [ih, Greedy.kept_iff]
      refine and_congr_right fun _ => ⟨fun h r hr hk => h r (by omega) hr hk, fun h r _ hr hk => h r hr hk⟩
    change (keepAt over f k j ∧ _) ↔ _
    rw [ih]
    constructor
    · rintro ⟨⟨hf, h⟩, hn⟩
      refine ⟨hf, fun q hq hqj hkq hov => ?_⟩
      rcases Nat.lt_succ_iff_lt_or_eq.mp hq with h' | h'
      · exact h q h' hqj hkq hov
      · exact hn ⟨q, h', hov, (hk q h').mpr hkq, hqj⟩
    · rintro ⟨hf, h⟩
      refine ⟨⟨hf, fun q hq => h q (by omega)⟩, ?_⟩
      rintro ⟨q, hq, hov, hkq, hqj⟩
      exact h q (by omega) hqj ((hk q hq).mp hkq) hov

/-- After all trips the greedily kept boxes are left. -/
theorem keepAt_all {N : ℕ} (over : Fin N → Fin N → Prop) (f : Fin N → Prop) (j : Fin N) :
    keepAt over f N j ↔ Greedy.kept over f j := by
  rw [keepAt_iff, Greedy.kept_iff]
  exact and_congr_right fun _ => ⟨fun h q => h q q.isLt, fun h q _ => h q⟩

/-! ## One trip, read -/

/-- One trip on the matrix of overlaps, the positions, the trip's number and the mask. -/
def trip (x : FVec Ideal S2000x2000 .f32) (pos : IVec S2000 32) (n : IVec S_ 32) (keep : IVec S2000 1) : IVec S2000 1 :=
  andi keep (noti (andi (andi (cmpf .ogt (shapeCast S2000 (Host.dynamicSlice S1x2000 x (fun k => (((![select (cmpi .slt n (constantI S_ 32 0#32)) (addi n (constantI S_ 32 2000#32)) n, select (cmpi .slt (constantI S_ 32 0#32) (constantI S_ 32 0#32)) (addi (constantI S_ 32 0#32) (constantI S_ 32 2000#32)) (constantI S_ 32 0#32)] : Fin 2 → IVec S_ 32)) k (Shape.Idx.first h_S_)).toInt) sliceFits_S2000x2000_S1x2000) shapeCasts_S1x2000_S2000)
      (broadcastInDim S2000 ![] bcast_S_S2000 (constant S_ .f32 0x3F333333#32)))
    (broadcastInDim S2000 ![] bcast_S_S2000 (shapeCast S_ (Host.dynamicSlice S1 keep (fun k => (((![select (cmpi .slt n (constantI S_ 32 0#32)) (addi n (constantI S_ 32 2000#32)) n] : Fin 1 → IVec S_ 32)) k (Shape.Idx.first h_S_)).toInt) sliceFits_S2000_S1) shapeCasts_S1_S_)))
    (cmpi .sgt pos (broadcastInDim S2000 ![] bcast_S_S2000 n))))

theorem step_keep (V : Valuation τ sig (Elt Ideal)) : step_main_v94_4 V
    = trip (V (Proc.devRef .tc main_v94_0)) (V (Proc.devRef .tc main_v94_1)) (V (Proc.devRef .tc main_v94_3)) (V (Proc.devRef .tc main_v94_4)) := rfl

/-- Row `k` of a matrix. -/
theorem sliceRow (x : FVec Ideal S2000x2000 .f32) (st : Fin 2 → Int) (k : Fin 2000) (h0 : st 0 = k.val) (h1 : st 1 = 0) (j : Fin 2000) :
    shapeCast S2000 (Host.dynamicSlice S1x2000 x st sliceFits_S2000x2000_S1x2000) shapeCasts_S1x2000_S2000 (ValueIdx.ix1 j)
      = x (ValueIdx.ix2 k j) := by
  pointwise []
  have e0 : Host.clampedStart S2000x2000 S1x2000 rfl st 0 = k.val :=
    Host.clampedStart_of_le (s := S2000x2000) (t := S1x2000) rfl st 0 k.val h0 (k.isLt : k.val + 1 ≤ 2000)
  have e1 : Host.clampedStart S2000x2000 S1x2000 rfl st 1 = 0 :=
    Host.clampedStart_of_le (s := S2000x2000) (t := S1x2000) rfl st 1 0 h1 (by decide : 0 + 2000 ≤ 2000)
  exact congrArg₂ (fun a b => x (ValueIdx.ix2 a b)) (Fin.ext e0)
    (Fin.ext ((congrArg (· + j.val) e1).trans (Nat.zero_add _)))

/-- Entry `k` of a mask. -/
theorem sliceEntry (x : IVec S2000 1) (st : Fin 1 → Int) (k : Fin 2000) (h0 : st 0 = k.val) (i : S_.Idx) :
    shapeCast S_ (Host.dynamicSlice S1 x st sliceFits_S2000_S1) shapeCasts_S1_S_ i = x (ValueIdx.ix1 k) := by
  pointwise []
  have e0 : Host.clampedStart S2000 S1 rfl st 0 = k.val :=
    Host.clampedStart_of_le (s := S2000) (t := S1) rfl st 0 k.val h0 (k.isLt : k.val + 1 ≤ 2000)
  exact congrArg (fun a => x (ValueIdx.ix1 a)) (Fin.ext e0)

/-- Box `q` covers box `j` beyond the threshold. -/
def over (x : FVec Ideal S2000x2000 .f32) (q j : Fin 2000) : Prop := Ideal.ofBits .f32 0x3F333333#32 < x (ValueIdx.ix2 q j)

theorem wrapped (k : Fin 2000) (i : S_.Idx) :
    ((select (cmpi .slt (fun _ : S_.Idx => BitVec.ofNat 32 k.val) (constantI S_ 32 0#32))
      (addi (fun _ : S_.Idx => BitVec.ofNat 32 k.val) (constantI S_ 32 2000#32)) (fun _ : S_.Idx => BitVec.ofNat 32 k.val)) i).toInt = k.val := by
  pointwise []
  have hk := k.isLt
  have h : ¬ IntOp.cmpi .slt (BitVec.ofNat 32 k.val) 0#32 = 1#1 := by
    intro h
    have := (KRun.cmpi_slt_iff (n := 2000) (by decide) k 0).mp h
    exact absurd this (by simp [Fin.lt_def])
  exact (congrArg BitVec.toInt (if_neg h)).trans (KRun.toInt_ofNat_small (by omega))

theorem trip_iff (x : FVec Ideal S2000x2000 .f32) (k : Fin 2000) (keep : IVec S2000 1) (j : Fin 2000) :
    trip x (iotaInDim S2000 32 0) (fun _ => BitVec.ofNat 32 k.val) keep (ValueIdx.ix1 j) = 1#1
      ↔ keep (ValueIdx.ix1 j) = 1#1 ∧ ¬ (over x k j ∧ keep (ValueIdx.ix1 k) = 1#1 ∧ k < j) := by
  have h1 := sliceRow x (fun k_1 => (((![select (cmpi .slt (fun _ : S_.Idx => BitVec.ofNat 32 k.val) (constantI S_ 32 0#32)) (addi (fun _ : S_.Idx => BitVec.ofNat 32 k.val) (constantI S_ 32 2000#32)) (fun _ : S_.Idx => BitVec.ofNat 32 k.val), select (cmpi .slt (constantI S_ 32 0#32) (constantI S_ 32 0#32)) (addi (constantI S_ 32 0#32) (constantI S_ 32 2000#32)) (constantI S_ 32 0#32)] : Fin 2 → IVec S_ 32)) k_1 (Shape.Idx.first h_S_)).toInt) k (wrapped k _) (by rfl) j
  have h2 := fun i => sliceEntry keep (fun k_1 => (((![select (cmpi .slt (fun _ : S_.Idx => BitVec.ofNat 32 k.val) (constantI S_ 32 0#32)) (addi (fun _ : S_.Idx => BitVec.ofNat 32 k.val) (constantI S_ 32 2000#32)) (fun _ : S_.Idx => BitVec.ofNat 32 k.val)] : Fin 1 → IVec S_ 32)) k_1 (Shape.Idx.first h_S_)).toInt) k (wrapped k _) i
  unfold trip
  generalize shapeCast S2000 (Host.dynamicSlice S1x2000 x _ sliceFits_S2000x2000_S1x2000) shapeCasts_S1x2000_S2000 = r at *
  generalize shapeCast S_ (Host.dynamicSlice S1 keep _ sliceFits_S2000_S1) shapeCasts_S1_S_ = e at *
  pointwise [h1, h2]
  have h3 : IntOp.cmpi .sgt (BitVec.ofNat 32 j.val) (BitVec.ofNat 32 k.val) = 1#1 ↔ k < j :=
    KRun.cmpi_slt_iff (n := 2000) (by decide) k j
  have hnot : ∀ b : BitVec 1, ~~~b = 1#1 ↔ ¬ b = 1#1 := by decide
  rw [KRun.andi_eq_one, hnot, KRun.andi_eq_one, KRun.andi_eq_one, KRun.ofBool_decide_eq_one]
  exact and_congr_right fun _ => not_congr ⟨fun h => ⟨h.1.1, h.1.2, h3.mp h.2⟩, fun h => ⟨⟨h.1, h.2.1⟩, h3.mpr h.2.2⟩⟩

/-! ## All trips -/

/-- The carried buffers after `k` trips. -/
theorem trips (V : Valuation τ sig (Elt Ideal)) (x : FVec Ideal S2000x2000 .f32) (keep : IVec S2000 1)
    (h0 : V (Proc.devRef .tc main_v94_0) = x) (h1 : V (Proc.devRef .tc main_v94_1) = iotaInDim S2000 32 0)
    (h3 : V (Proc.devRef .tc main_v94_3) = constantI S_ 32 0#32) (h4 : V (Proc.devRef .tc main_v94_4) = keep) (k : ℕ) (hk : k ≤ 2000) :
    (STEP^[k] V) (Proc.devRef .tc main_v94_0) = x ∧ (STEP^[k] V) (Proc.devRef .tc main_v94_1) = iotaInDim S2000 32 0
      ∧ (STEP^[k] V) (Proc.devRef .tc main_v94_3) = (fun _ => BitVec.ofNat 32 k)
      ∧ ∀ j : Fin 2000, ((STEP^[k] V) (Proc.devRef .tc main_v94_4) : IVec S2000 1) (ValueIdx.ix1 j) = 1#1
          ↔ keepAt (over x) (fun i => keep (ValueIdx.ix1 i) = 1#1) k j := by
  induction k with
  | zero => exact ⟨h0, h1, h3, fun j => by rw [Function.iterate_zero, id, h4]; rfl⟩
  | succ k ih =>
    obtain ⟨i0, i1, i3, i4⟩ := ih (by omega)
    rw [Function.iterate_succ_apply']
    generalize STEP^[k] V = W at *
    refine ⟨(STEP_main_v94_0 W).trans i0, (STEP_main_v94_1 W).trans i1, ?_, fun j => ?_⟩
    · rw [STEP_main_v94_3, step_main_v94_3, i3]
      funext i
      show BitVec.ofNat 32 k + 1#32 = _
      rw [BitVec.ofNat_add]
    · rw [STEP_main_v94_4, step_keep, i0, i1, i3]
      refine (trip_iff x ⟨k, by omega⟩ _ j).trans ?_
      rw [i4, i4]
      refine and_congr_right fun _ => not_congr ⟨fun h => ⟨⟨k, by omega⟩, rfl, h⟩, ?_⟩
      rintro ⟨q, hq, h⟩
      have e : q = ⟨k, by omega⟩ := Fin.ext hq
      exact e ▸ h

/-! ## The whole reference -/

section
variable (m : (ℓ : Loc nD τ sig) → Buf (Elt Ideal) ℓ) (c : Dev nD)

/-- The selected boxes, clipped, and their scores, those of small boxes replaced by −∞. -/
def boxesOf (x : FVec Ideal S20000x4 .f32) (s : FVec Ideal S20000 .f32) : FVec Ideal S2000x4 .f32 :=
  clipped (takeBoxes x (topIndices s))
def scoresOf (x : FVec Ideal S20000x4 .f32) (s : FVec Ideal S20000 .f32) : FVec Ideal S2000 .f32 :=
  masked (large (boxesOf x s)) (topScores s)

/-- The same boxes and scores in descending order of the scores. -/
def sortedBoxes (x : FVec Ideal S20000x4 .f32) (s : FVec Ideal S20000 .f32) : FVec Ideal S2000x4 .f32 :=
  takeRows (boxesOf x s) (order (scoresOf x s))
def sortedScores (x : FVec Ideal S20000x4 .f32) (s : FVec Ideal S20000 .f32) : FVec Ideal S2000 .f32 :=
  takeScores (scoresOf x s) (order (scoresOf x s))

theorem entry_v17 : ∀ V : Valuation τ sig (Elt Ideal),
    afterL [hostOps0 (F := Ideal), hostOps0_1, hostOps0_2, hostOps0_3, hostOps0_4, hostOps0_5, hostOps0_6, hostOps0_7, hostOps0_8, hostOps0_9, hostOps0_10]
      V (Proc.devRef .tc main_v17) = boxesOf (V (Proc.devRef .tc main_arg0)) (V (Proc.devRef .tc main_arg1)) := by
  intro V
  simp only [afterL_cons, afterL_nil]
  rw [at10_v17]
  have e3 : ∀ W, after (hostOps0_9 (F := Ideal)) (after hostOps0_8 (after hostOps0_7 (after hostOps0_6 (after hostOps0_5 (after hostOps0_4 (after hostOps0_3 (after hostOps0_2 W)))))))
      (Proc.devRef .tc main_v3) = clip (col0 (W (Proc.devRef .tc main_v0))) := by
    intro W
    rw [after_of_writes_sub hostOps0_9 _ hostOps0_9_writes (by decide +kernel), after_of_writes_sub hostOps0_8 _ hostOps0_8_writes (by decide +kernel),
      after_of_writes_sub hostOps0_7 _ hostOps0_7_writes (by decide +kernel), after_of_writes_sub hostOps0_6 _ hostOps0_6_writes (by decide +kernel),
      after_of_writes_sub hostOps0_5 _ hostOps0_5_writes (by decide +kernel), after_of_writes_sub hostOps0_4 _ hostOps0_4_writes (by decide +kernel), at3_v3]
  have e6 : ∀ W, after (hostOps0_9 (F := Ideal)) (after hostOps0_8 (after hostOps0_7 (after hostOps0_6 (after hostOps0_5 (after hostOps0_4 (after hostOps0_3 (after hostOps0_2 W)))))))
      (Proc.devRef .tc main_v6) = clip (col1 (W (Proc.devRef .tc main_v0))) := by
    intro W
    rw [after_of_writes_sub hostOps0_9 _ hostOps0_9_writes (by decide +kernel), after_of_writes_sub hostOps0_8 _ hostOps0_8_writes (by decide +kernel),
      after_of_writes_sub hostOps0_7 _ hostOps0_7_writes (by decide +kernel), after_of_writes_sub hostOps0_6 _ hostOps0_6_writes (by decide +kernel), at5_v6,
      after_of_writes_sub hostOps0_3 _ hostOps0_3_writes (by decide +kernel), after_of_writes_sub hostOps0_2 _ hostOps0_2_writes (by decide +kernel)]
  have e9 : ∀ W, after (hostOps0_9 (F := Ideal)) (after hostOps0_8 (after hostOps0_7 (after hostOps0_6 (after hostOps0_5 (after hostOps0_4 (after hostOps0_3 (after hostOps0_2 W)))))))
      (Proc.devRef .tc main_v9) = clip (col2 (W (Proc.devRef .tc main_v0))) := by
    intro W
    rw [after_of_writes_sub hostOps0_9 _ hostOps0_9_writes (by decide +kernel), after_of_writes_sub hostOps0_8 _ hostOps0_8_writes (by decide +kernel), at7_v9,
      after_of_writes_sub hostOps0_5 _ hostOps0_5_writes (by decide +kernel), after_of_writes_sub hostOps0_4 _ hostOps0_4_writes (by decide +kernel),
      after_of_writes_sub hostOps0_3 _ hostOps0_3_writes (by decide +kernel), after_of_writes_sub hostOps0_2 _ hostOps0_2_writes (by decide +kernel)]
  have e12 : ∀ W, after (hostOps0_9 (F := Ideal)) (after hostOps0_8 (after hostOps0_7 (after hostOps0_6 (after hostOps0_5 (after hostOps0_4 (after hostOps0_3 (after hostOps0_2 W)))))))
      (Proc.devRef .tc main_v12) = clip (col3 (W (Proc.devRef .tc main_v0))) := by
    intro W
    rw [at9_v12, after_of_writes_sub hostOps0_7 _ hostOps0_7_writes (by decide +kernel), after_of_writes_sub hostOps0_6 _ hostOps0_6_writes (by decide +kernel),
      after_of_writes_sub hostOps0_5 _ hostOps0_5_writes (by decide +kernel), after_of_writes_sub hostOps0_4 _ hostOps0_4_writes (by decide +kernel),
      after_of_writes_sub hostOps0_3 _ hostOps0_3_writes (by decide +kernel), after_of_writes_sub hostOps0_2 _ hostOps0_2_writes (by decide +kernel)]
  rw [e3, e6, e9, e12, at1_v0, at0_indices, after_of_writes_sub hostOps0 _ hostOps0_writes (by decide +kernel)]
  rfl

theorem entry_v33 : ∀ V : Valuation τ sig (Elt Ideal),
    afterL [hostOps0 (F := Ideal), hostOps0_1, hostOps0_2, hostOps0_3, hostOps0_4, hostOps0_5, hostOps0_6, hostOps0_7, hostOps0_8, hostOps0_9, hostOps0_10, hostOps0_11]
      V (Proc.devRef .tc main_v33) = scoresOf (V (Proc.devRef .tc main_arg0)) (V (Proc.devRef .tc main_arg1)) := by
  intro V
  have h := entry_v17 V
  simp only [afterL_cons, afterL_nil] at h ⊢
  rw [at11_v33, h, after_of_writes_sub hostOps0_9 _ hostOps0_9_writes (by decide +kernel), after_of_writes_sub hostOps0_8 _ hostOps0_8_writes (by decide +kernel),
    after_of_writes_sub hostOps0_7 _ hostOps0_7_writes (by decide +kernel), after_of_writes_sub hostOps0_6 _ hostOps0_6_writes (by decide +kernel),
    after_of_writes_sub hostOps0_5 _ hostOps0_5_writes (by decide +kernel), after_of_writes_sub hostOps0_4 _ hostOps0_4_writes (by decide +kernel),
    after_of_writes_sub hostOps0_3 _ hostOps0_3_writes (by decide +kernel), after_of_writes_sub hostOps0_2 _ hostOps0_2_writes (by decide +kernel),
    after_of_writes_sub hostOps0_1 _ hostOps0_1_writes (by decide +kernel), at0_values]
  rfl

/-- The contents before the sorting. -/
abbrev W11 : Valuation τ sig (Elt Ideal) :=
  afterL [hostOps0 (F := Ideal), hostOps0_1, hostOps0_2, hostOps0_3, hostOps0_4, hostOps0_5, hostOps0_6, hostOps0_7, hostOps0_8, hostOps0_9, hostOps0_10, hostOps0_11]
    (launchContents m c)

abbrev bx : FVec Ideal S20000x4 .f32 := m (c.tc.loc main_arg0)
abbrev sc : FVec Ideal S20000 .f32 := m (c.tc.loc main_arg1)

theorem W11_v33 : W11 m c (Proc.devRef .tc main_v33) = scoresOf (bx m c) (sc m c) := entry_v33 _
theorem W11_v17 : W11 m c (Proc.devRef .tc main_v17) = boxesOf (bx m c) (sc m c) :=
  (after_of_writes_sub hostOps0_11 _ hostOps0_11_writes (by decide +kernel)).trans (entry_v17 (launchContents m c))

/-- The contents after the sorting. -/
abbrev W15 : Valuation τ sig (Elt Ideal) :=
  after hostOps0_15 (after hostOps0_14 (after hostOps0_13 (after hostOps0_12 (W11 m c))))

theorem W15_v36 : W15 m c (Proc.devRef .tc main_v36) = sortedBoxes (bx m c) (sc m c) := by
  unfold W15
  rw [after_of_writes_sub hostOps0_15 _ hostOps0_15_writes (by decide +kernel), at14_v36, at13_v35,
    after_of_writes_sub hostOps0_13 _ hostOps0_13_writes (by decide +kernel), after_of_writes_sub hostOps0_12 _ hostOps0_12_writes (by decide +kernel),
    W11_v33, W11_v17]
  rfl

theorem W15_v37 : W15 m c (Proc.devRef .tc main_v37) = sortedScores (bx m c) (sc m c) := by
  unfold W15
  rw [at15_v37, after_of_writes_sub hostOps0_14 _ hostOps0_14_writes (by decide +kernel), after_of_writes_sub hostOps0_14 _ hostOps0_14_writes (by decide +kernel),
    at13_v35,
    after_of_writes_sub hostOps0_13 _ hostOps0_13_writes (by decide +kernel), after_of_writes_sub hostOps0_12 _ hostOps0_12_writes (by decide +kernel),
    W11_v33]
  rfl

theorem entry_eq : entryContents preI m c = after hostOps0_18 (after hostOps0_17 (after hostOps0_16 (W15 m c))) := rfl

theorem entry_v36 : entryContents preI m c (Proc.devRef .tc main_v36) = sortedBoxes (bx m c) (sc m c) := by
  rw [entry_eq, after_of_writes_sub hostOps0_18 _ hostOps0_18_writes (by decide +kernel), after_of_writes_sub hostOps0_17 _ hostOps0_17_writes (by decide +kernel),
    after_of_writes_sub hostOps0_16 _ hostOps0_16_writes (by decide +kernel), W15_v36]
theorem entry_v37 : entryContents preI m c (Proc.devRef .tc main_v37) = sortedScores (bx m c) (sc m c) := by
  rw [entry_eq, after_of_writes_sub hostOps0_18 _ hostOps0_18_writes (by decide +kernel), after_of_writes_sub hostOps0_17 _ hostOps0_17_writes (by decide +kernel),
    after_of_writes_sub hostOps0_16 _ hostOps0_16_writes (by decide +kernel), W15_v37]
theorem entry_iou : entryContents preI m c (Proc.devRef .tc main_v94_0) = iou (sortedBoxes (bx m c) (sc m c)) := by
  rw [entry_eq, at18_iou, W15_v36]
theorem entry_finite : entryContents preI m c (Proc.devRef .tc main_v94_4) = finite (sortedScores (bx m c) (sc m c)) := by
  rw [entry_eq, at18_finite, after_of_writes_sub hostOps0_17 _ hostOps0_17_writes (by decide +kernel),
    after_of_writes_sub hostOps0_16 _ hostOps0_16_writes (by decide +kernel), W15_v37]

/-- The mask of kept boxes, in the sorted order. -/
def keptBits : IVec S2000 1 := atK m 2000 c (Proc.devRef .tc main_v94_4)

theorem keptBits_iff (j : Fin 2000) : keptBits m c (ValueIdx.ix1 j) = 1#1
    ↔ Greedy.kept (over (iou (sortedBoxes (bx m c) (sc m c)))) (fun i => finite (sortedScores (bx m c) (sc m c)) (ValueIdx.ix1 i) = 1#1) j := by
  have h := (trips (entryContents preI m c) _ _ (entry_iou m c) (by rw [entry_eq, at18_iota]) (by rw [entry_eq, at18_count]) (entry_finite m c) 2000 le_rfl).2.2.2 j
  rw [keepAt_all] at h
  rw [← h]
  exact iff_of_eq (congrArg (fun b : IVec S2000 1 => b (ValueIdx.ix1 j) = 1#1) (atK_agree m c 2000 main_v94_4 (by decide)))

/-- The scores that the last selection sees. -/
def keptScores : FVec Ideal S2000 .f32 := masked (keptBits m c) (sortedScores (bx m c) (sc m c))

theorem post_v95 : after hostOps0_20 (after hostOps0_19 (after condOps (atK m 2000 c))) (Proc.devRef .tc main_v95) = keptScores m c := by
  rw [at20_v93, after_of_writes_sub condOps _ condOps_writes (by decide +kernel), after_of_writes_sub condOps _ condOps_writes (by decide +kernel),
    atK_keep m main_v37 (by decide +kernel) (by decide +kernel) c, entry_v37]
  rfl

theorem final_scores : finalContents condOps preI bodyI postI 2000 m c (Proc.devRef .tc main_values_15) = outScores (keptScores m c) := by
  change after hostOps0_22 (after hostOps0_21 (after hostOps0_20 (after hostOps0_19 (after condOps (atK m 2000 c))))) (Proc.devRef .tc main_values_15) = _
  rw [after_of_writes_sub hostOps0_22 _ post22_writes (by decide +kernel), at21_values, post_v95]

theorem final_boxes : finalContents condOps preI bodyI postI 2000 m c (Proc.devRef .tc main_v96)
    = takeOut (sortedBoxes (bx m c) (sc m c)) (outIndices (keptScores m c)) := by
  change after hostOps0_22 (after hostOps0_21 (after hostOps0_20 (after hostOps0_19 (after condOps (atK m 2000 c))))) (Proc.devRef .tc main_v96) = _
  rw [at22_v94, at21_indices, post_v95, after_of_writes_sub hostOps0_21 _ post21_writes (by decide +kernel),
    after_of_writes_sub hostOps0_20 _ post20_writes (by decide +kernel), after_of_writes_sub hostOps0_19 _ post19_writes (by decide +kernel),
    after_of_writes_sub condOps _ condOps_writes (by decide +kernel),
    atK_keep m main_v36 (by decide +kernel) (by decide +kernel) c, entry_v36]

end

end Cert.Proof.RRun
-- ==== Proof.Meet.lean ====
/-
  Both programs' results at one row: the row's candidate is the one the reference's two sortings put at that place, and
  the kernel's rank is that place.
-/
module

public import proofs.«01_k».proof.Proof.KValue
public import proofs.«01_k».proof.Proof.Padding
public import proofs.«01_k».proof.Proof.Takes
public import proofs.«01_k».proof.Proof.RPoint
public import proofs.«01_k».proof.Proof.RLoop

@[expose] public section

set_option maxRecDepth 16384

noncomputable section

namespace Cert.Proof.Meet

open Cert.ReferenceIdeal
open Idealize.ShloMosaic
open Idealize.ShloMosaic.Pipeline (Dat)
open Cert.Proof.KRun (clipTo scoreOf close shared wide)
open Cert.Proof.Sorting
open Cert.Proof.Padding (up)
open Classical

/-! ## The candidates -/

section
variable (B : FVec Ideal S2000x4 .f32) (T : FVec Ideal S2000 .f32)

/-- A candidate's score, −∞ if its box is too small. -/
def score (i : Fin 2000) : EReal := scoreOf (B (ix2 i 0)) (B (ix2 i 1)) (B (ix2 i 2)) (B (ix2 i 3)) (T (ix1 i))

/-- Which candidates overlap too much. -/
def ov (i j : Fin 2000) : Prop :=
  close (clipTo (B (ix2 i 0))) (clipTo (B (ix2 i 1))) (clipTo (B (ix2 i 2))) (clipTo (B (ix2 i 3)))
    (clipTo (B (ix2 j 0))) (clipTo (B (ix2 j 1))) (clipTo (B (ix2 j 2))) (clipTo (B (ix2 j 3)))
    ((clipTo (B (ix2 i 2)) - clipTo (B (ix2 i 0))) * (clipTo (B (ix2 i 3)) - clipTo (B (ix2 i 1))))
    ((clipTo (B (ix2 j 2)) - clipTo (B (ix2 j 0))) * (clipTo (B (ix2 j 3)) - clipTo (B (ix2 j 1))))

/-- A candidate's score is the selected one or −∞. -/
theorem score_or (i : Fin 2000) : score B T i = T (ix1 i) ∨ score B T i = ⊥ := by
  unfold score scoreOf
  split
  · exact Or.inl rfl
  · exact Or.inr rfl

variable (hT : ∀ i, (T (ix1 i) : EReal) ≠ ⊤)
include hT

/-- No candidate's score is +∞, where no selected score is. -/
theorem score_ne_top (i : Fin 2000) : score B T i ≠ ⊤ := by
  rcases score_or B T i with h | h <;> rw [h]
  · exact hT i
  · exact bot_ne_top
end

/-! ## The kernel's side -/

section
variable (B : FVec Ideal S2000x4 .f32) (T : FVec Ideal S2000 .f32) (hT : ∀ i, (T (ix1 i) : EReal) ≠ ⊤)

open Cert.Proof.KRun

/-- The kernel's coordinate row at a candidate's position. -/
theorem row_up (k : Fin 4) (i : Fin 2000) : (rowsOf B k (ix2 0 (up i)) : EReal) = B (ix2 i k) :=
  (rowsOf_apply B k (up i)).trans (dif_pos i.isLt)

/-- The kernel's scores at a candidate's position. -/
theorem scores_up (i : Fin 2000) : (padScores T (ix2 0 (up i)) : EReal) = T (ix1 i) :=
  (padScores_apply T (up i)).trans (dif_pos i.isLt)

/-- The kernel's scores at the last 48 positions. -/
theorem scores_last (x : Fin 2048) (hx : 2000 ≤ x.val) : (padScores T (ix2 0 x) : EReal) = ⊥ :=
  (padScores_apply T x).trans (dif_neg (not_lt.mpr hx))

/-- The rows of clipped coordinates and of masked scores, and the eligible positions, as the kernel forms them. -/
abbrev kA := Cert.KernelIdeal.Gen.k0_pay3 (F := Ideal) (rowsOf B 0)
abbrev kB := Cert.KernelIdeal.Gen.k0_pay4 (F := Ideal) (rowsOf B 1)
abbrev kC := Cert.KernelIdeal.Gen.k0_pay5 (F := Ideal) (rowsOf B 2)
abbrev kD := Cert.KernelIdeal.Gen.k0_pay6 (F := Ideal) (rowsOf B 3)
abbrev kS := Cert.KernelIdeal.Gen.k0_pay9 (F := Ideal) (rowsOf B 0) (rowsOf B 1) (rowsOf B 2) (rowsOf B 3) (padScores T)
abbrev kL := eligible (rowsOf B 0) (rowsOf B 1) (rowsOf B 2) (rowsOf B 3) (padScores T)
abbrev kO := overlaps (rowsOf B 0) (rowsOf B 1) (rowsOf B 2) (rowsOf B 3)

theorem kA_up (i : Fin 2000) : (kA B (ix2 0 (up i)) : EReal) = clipTo (B (ix2 i 0)) :=
  (pay3_apply (rowsOf B 0) (up i)).trans (congrArg clipTo (row_up B 0 i))
theorem kB_up (i : Fin 2000) : (kB B (ix2 0 (up i)) : EReal) = clipTo (B (ix2 i 1)) :=
  (pay4_apply (rowsOf B 1) (up i)).trans (congrArg clipTo (row_up B 1 i))
theorem kC_up (i : Fin 2000) : (kC B (ix2 0 (up i)) : EReal) = clipTo (B (ix2 i 2)) :=
  (pay5_apply (rowsOf B 2) (up i)).trans (congrArg clipTo (row_up B 2 i))
theorem kD_up (i : Fin 2000) : (kD B (ix2 0 (up i)) : EReal) = clipTo (B (ix2 i 3)) :=
  (pay6_apply (rowsOf B 3) (up i)).trans (congrArg clipTo (row_up B 3 i))

theorem kS_up (i : Fin 2000) : (kS B T (ix2 0 (up i)) : EReal) = score B T i := by
  refine (pay9_apply (rowsOf B 0) (rowsOf B 1) (rowsOf B 2) (rowsOf B 3) (padScores T) (up i)).trans ?_
  rw [row_up, row_up, row_up, row_up, scores_up]
  rfl

theorem kS_last (x : Fin 2048) (hx : 2000 ≤ x.val) : (kS B T (ix2 0 x) : EReal) = ⊥ := by
  refine (pay9_apply (rowsOf B 0) (rowsOf B 1) (rowsOf B 2) (rowsOf B 3) (padScores T) x).trans ?_
  rw [scores_last T x hx]
  unfold scoreOf
  exact ite_self _

theorem area_up (i : Fin 2000) : (Cert.KernelIdeal.Gen.k0_pay10 (F := Ideal) (rowsOf B 0) (rowsOf B 1) (rowsOf B 2) (rowsOf B 3) (ix2 0 (up i)) : EReal)
    = (clipTo (B (ix2 i 2)) - clipTo (B (ix2 i 0))) * (clipTo (B (ix2 i 3)) - clipTo (B (ix2 i 1))) := by
  refine (pay10_apply (rowsOf B 0) (rowsOf B 1) (rowsOf B 2) (rowsOf B 3) (up i)).trans ?_
  rw [row_up, row_up, row_up, row_up]

/-- Equal boxes overlap equally. -/
theorem close_congr {p0 p1 p2 p3 q0 q1 q2 q3 e p0' p1' p2' p3' q0' q1' q2' q3' e' : EReal} (h0 : p0 = p0') (h1 : p1 = p1') (h2 : p2 = p2')
    (h3 : p3 = p3') (k0 : q0 = q0') (k1 : q1 = q1') (k2 : q2 = q2') (k3 : q3 = q3') (he : e = e') :
    close p0 p1 p2 p3 q0 q1 q2 q3 ((p2 - p0) * (p3 - p1)) e ↔ close p0' p1' p2' p3' q0' q1' q2' q3' ((p2' - p0') * (p3' - p1')) e' := by
  subst h0 h1 h2 h3 k0 k1 k2 k3 he
  exact Iff.rfl

/-- At two candidates' positions the kernel's overlap test is that of the candidates. -/
theorem kO_up (i j : Fin 2000) : kO B (up i) (up j) ↔ ov B i j :=
  close_congr (kA_up B i) (kB_up B i) (kC_up B i) (kD_up B i) (kA_up B j) (kB_up B j) (kC_up B j) (kD_up B j) (area_up B j)

/-- None of the last 48 positions is eligible. -/
theorem kL_last (x : Fin 2048) (hx : 2000 ≤ x.val) : ¬ kL B T x := fun h =>
  ((eligible_iff (rowsOf B 0) (rowsOf B 1) (rowsOf B 2) (rowsOf B 3) (padScores T) x).mp h).2 (kS_last B T x hx)

include hT in
/-- At a candidate's position, eligible means a score above −∞. -/
theorem kL_up (i : Fin 2000) : kL B T (up i) ↔ live (score B T) i := by
  refine (eligible_iff (rowsOf B 0) (rowsOf B 1) (rowsOf B 2) (rowsOf B 3) (padScores T) (up i)).trans ?_
  show kS B T (ix2 0 (up i)) ≠ (⊤ : EReal) ∧ kS B T (ix2 0 (up i)) ≠ (⊥ : EReal) ↔ _
  rw [kS_up]
  exact ⟨fun h => h.2, fun h => ⟨score_ne_top B T hT i, h⟩⟩

end

/-! ## The reference's side -/

section
variable (B : FVec Ideal S2000x4 .f32) (T : FVec Ideal S2000 .f32) (hT : ∀ i, (T (ix1 i) : EReal) ≠ ⊤)

open Cert.Proof.RRun

/-- The masked scores of the reference. -/
abbrev rS : FVec Ideal S2000 .f32 := masked (large (clipped B)) T

theorem rS_apply (i : Fin 2000) : (rS B T (ix1 i) : EReal) = score B T i := score_apply B T i

/-- The candidate the sorting puts at a place. -/
abbrev place (p : Fin 2000) : Fin 2000 := orderPos (rS B T) p

/-- The reference's first sorting puts the candidates by falling score, equal scores in their old order. -/
theorem sorted_place : Sorted (score B T) (place B T) := by
  have h := sorted_orderPos (rS B T)
  rwa [show (fun k => (rS B T (ValueIdx.ix1 k) : EReal)) = score B T from funext fun i => rS_apply B T i] at h

theorem boxes_at (p : Fin 2000) (k : Fin 4) :
    (takeRows (clipped B) (order (rS B T)) (ix2 p k) : EReal) = clipTo (B (ix2 (place B T p) k)) :=
  (takeRows_apply (clipped B) (order (rS B T)) (place B T) (order_apply (rS B T)) p k).trans (clipped_apply B (place B T p) k)

theorem scores_at (p : Fin 2000) : (takeScores (rS B T) (order (rS B T)) (ix1 p) : EReal) = score B T (place B T p) :=
  (takeScores_apply (rS B T) (order (rS B T)) (place B T) (order_apply (rS B T)) p).trans (rS_apply B T (place B T p))

/-- The reference's overlap test at two places is that of the candidates there. -/
theorem over_at (a b : Fin 2000) :
    over (iou (takeRows (clipped B) (order (rS B T)))) a b ↔ ov B (place B T a) (place B T b) := by
  have e : iou (takeRows (clipped B) (order (rS B T))) (ix2 a b) = _ := iou_apply (takeRows (clipped B) (order (rS B T))) a b
  rw [inter_apply, area_apply, area_apply] at e
  simp only [boxes_at] at e
  show Ideal.ofBits .f32 0x3F333333#32 < (iou (takeRows (clipped B) (order (rS B T))) (ix2 a b) : EReal) ↔ _
  rw [e]
  rfl

include hT in
/-- The reference starts with the candidates of finite score. -/
theorem finite_at (a : Fin 2000) :
    finite (takeScores (rS B T) (order (rS B T))) (ix1 a) = 1#1 ↔ live (score B T) (place B T a) := by
  rw [finite_iff, scores_at]
  exact ⟨fun h => h.2, fun h => ⟨score_ne_top B T hT _, h⟩⟩

variable (w : IVec S2000 1) (hw : ∀ p : Fin 2000, w (ix1 p) = 1#1
  ↔ Greedy.kept (over (iou (takeRows (clipped B) (order (rS B T))))) (fun i => finite (takeScores (rS B T) (order (rS B T))) (ix1 i) = 1#1) p)

/-- The scores the final selection sorts. -/
abbrev rT : FVec Ideal S2000 .f32 := masked w (takeScores (rS B T) (order (rS B T)))

/-- The place of each row of the results. -/
abbrev pick (r : Fin 2000) : Fin 2000 := descend (n := 2000) (rT B T w) r

/-- The reference's last selection sorts by falling score, equal scores in their old order. -/
theorem sorted_pick : Sorted (fun p => (rT B T w (ix1 p) : EReal)) (pick B T w) := sorted_descend (n := 2000) (rT B T w)

variable (hA : ∀ i j : Fin 2000, i ≤ j → (T (ix1 j) : EReal) ≤ T (ix1 i))

include hT hw hA in
/-- The score of a place in the last selection: its candidate's if the candidate is kept, −∞ if not. -/
theorem rT_apply (p : Fin 2000) : (rT B T w (ix1 p) : EReal)
    = if Greedy.kept (ov B) (live (score B T)) (place B T p) then score B T (place B T p) else ⊥ := by
  refine (masked_apply w _ p).trans ?_
  rw [scores_at]
  refine if_congr ?_ rfl rfl
  rw [hw, ← kept_sorted (fun i => (T (ix1 i) : EReal)) (score B T) (ov B) (place B T) hA (score_or B T) (sorted_place B T) p,
    show over (iou (takeRows (clipped B) (order (rS B T)))) = (fun a b => ov B (place B T a) (place B T b)) from
      funext fun a => funext fun b => propext (over_at B T a b),
    show (fun i => finite (takeScores (rS B T) (order (rS B T))) (ix1 i) = 1#1) = (fun a => live (score B T) (place B T a)) from
      funext fun a => propext (finite_at B T hT a)]

end

/-! ## The results -/

section
variable (B : FVec Ideal S2000x4 .f32) (T : FVec Ideal S2000 .f32) (hT : ∀ i, (T (ix1 i) : EReal) ≠ ⊤)
variable (hA : ∀ i j : Fin 2000, i ≤ j → (T (ix1 j) : EReal) ≤ T (ix1 i))
variable (w : IVec S2000 1) (hw : ∀ p : Fin 2000, w (ix1 p) = 1#1
  ↔ Greedy.kept (RRun.over (RRun.iou (RRun.takeRows (RRun.clipped B) (RRun.order (rS B T)))))
    (fun i => RRun.finite (RRun.takeScores (rS B T) (RRun.order (rS B T))) (ix1 i) = 1#1) p)

/-- The candidate of a row of the results. -/
abbrev winner (r : Fin 1000) : Fin 2000 := place B T (pick B T w (r.castLE (by decide)))

/-- A row of the reference's boxes. -/
theorem reference_boxes (r : Fin 1000) (k : Fin 4) :
    (RRun.takeOut (RRun.takeRows (RRun.clipped B) (RRun.order (rS B T))) (RRun.outIndices (rT B T w)) (ix2 r k) : EReal)
      = clipTo (B (ix2 (winner B T w r) k)) :=
  (RRun.takeOut_apply _ (RRun.outIndices (rT B T w)) (fun r => pick B T w (r.castLE (by decide))) (RRun.outIndices_apply (rT B T w)) r k).trans
    (boxes_at B T _ k)

include hT hA hw in
/-- A row of the reference's scores. -/
theorem reference_scores (r : Fin 1000) : (RRun.outScores (rT B T w) (ix1 r) : EReal)
    = if Greedy.kept (ov B) (live (score B T)) (winner B T w r) then score B T (winner B T w r) else ⊥ :=
  (RRun.outScores_apply (rT B T w) r).trans (rT_apply B T hT w hw hA _)

/-- The kernel's block. -/
abbrev block : FVec Ideal Cert.KernelIdeal.S1024x8 .f32 :=
  KRun.blockOf (F := Ideal) 2049 (KRun.rowsOf B 0) (KRun.rowsOf B 1) (KRun.rowsOf B 2) (KRun.rowsOf B 3) (KRun.padScores T)

include hT hA hw in
/-- The position whose rank is a row's number is that of the row's candidate. -/
theorem winner_rank (r : Fin 1000) (x : Fin 2048) :
    KRun.rank (kL B T) (Greedy.kept (kO B) (kL B T)) x = r.val ↔ up (winner B T w r) = x :=
  Padding.rank_iff (score B T) (ov B) (kL B T) (kO B) (kL_up B T hT) (kL_last B T) (kO_up B) (fun i => (T (ix1 i) : EReal)) (place B T)
    hA (score_or B T) (sorted_place B T) (fun p => (rT B T w (ix1 p) : EReal)) (pick B T w) (sorted_pick B T w)
    (rT_apply B T hT w hw hA) (r.castLE (by decide)) x

theorem kept_eligible (i : Fin 2048) (h : Greedy.kept (kO B) (kL B T) i) : kL B T i := ((Greedy.kept_iff _ _ i).mp h).1

include hT hA hw in
/-- A row of the kernel's boxes is the clipped box of the row's candidate. -/
theorem kernel_boxes (r : Fin 1000) (k : Fin 4) :
    (KRun.firstColumns (block B T) (ix2 r k) : EReal) = clipTo (B (ix2 (winner B T w r) k)) := by
  have hi := winner_rank B T hT hA w hw r
  have hK := kept_eligible B T
  refine (KRun.firstColumns_apply (block B T) r k).trans ?_
  unfold block
  rw [KRun.blockOf_eq]
  fin_cases k
  · exact (KRun.result_0 _ _ _ _ _ hK (r.castLE (by decide)) _ hi).trans (kA_up B _)
  · exact (KRun.result_1 _ _ _ _ _ hK (r.castLE (by decide)) _ hi).trans (kB_up B _)
  · exact (KRun.result_2 _ _ _ _ _ hK (r.castLE (by decide)) _ hi).trans (kC_up B _)
  · exact (KRun.result_3 _ _ _ _ _ hK (r.castLE (by decide)) _ hi).trans (kD_up B _)

include hT hA hw in
/-- A row of the kernel's scores is that of the row's candidate if it is kept, −∞ if not. -/
theorem kernel_scores (r : Fin 1000) : (KRun.fifthColumn (block B T) (ix1 r) : EReal)
    = if Greedy.kept (ov B) (live (score B T)) (winner B T w r) then score B T (winner B T w r) else ⊥ := by
  have hi := winner_rank B T hT hA w hw r
  have hK := kept_eligible B T
  refine (KRun.fifthColumn_apply (block B T) r).trans ?_
  unfold block
  rw [KRun.blockOf_eq]
  refine (KRun.result_4 _ _ _ _ _ hK (r.castLE (by decide)) _ hi fun j hj =>
    (KRun.eligible_iff (KRun.rowsOf B 0) (KRun.rowsOf B 1) (KRun.rowsOf B 2) (KRun.rowsOf B 3) (KRun.padScores T) j).mp hj).trans ?_
  exact if_congr (Padding.kept_up (score B T) (ov B) (kL B T) (kO B) (kL_up B T hT) (kL_last B T) (kO_up B) _) (kS_up B T _) rfl

include hT hA hw in
/-- The boxes are equal. -/
theorem boxes_eq : KRun.firstColumns (block B T)
    = RRun.takeOut (RRun.takeRows (RRun.clipped B) (RRun.order (rS B T))) (RRun.outIndices (rT B T w)) := by
  funext x
  obtain ⟨r, k, rfl⟩ : ∃ (r : Fin 1000) (k : Fin 4), x = ix2 r k := ⟨x 0, x 1, eq_ix2 x⟩
  exact (kernel_boxes B T hT hA w hw r k).trans (reference_boxes B T w r k).symm

include hT hA hw in
/-- The scores are equal. -/
theorem scores_eq : KRun.fifthColumn (block B T) = RRun.outScores (rT B T w) := by
  funext x
  obtain ⟨r, rfl⟩ : ∃ r : Fin 1000, x = ix1 r := ⟨x 0, eq_ix1 x⟩
  exact (kernel_scores B T hT hA w hw r).trans (reference_scores B T hT hA w hw r).symm
end

end Cert.Proof.Meet

end
-- ==== Proof.Final.lean ====
/-
  The two programs' results are equal, from memories that agree on the arguments.
-/
module

public import proofs.«01_k».proof.Defs
public import proofs.«01_k».proof.Proof.Meet

@[expose] public section

set_option maxRecDepth 16384

noncomputable section

namespace Cert.Proof.Final

open Idealize.ShloMosaic Idealize.SL.Sem
open Cert.Proof.Meet

/-- The shapes in the condition on the scores fit. -/
theorem preFacts : Cert.Pre_scores_below_infinity.Facts := ⟨by decide⟩

/-! ## What the condition on the scores says -/

section
variable [Cert.Pre_scores_below_infinity.Facts]

/-- Where the condition holds, no score is +∞. -/
theorem below (x : FVec Ideal Cert.ReferenceIdeal.S20000x4 .f32) (s : FVec Ideal Cert.ReferenceIdeal.S20000 .f32)
    (h : Cert.Pre_scores_below_infinity.fn (F := Ideal) x s = fun _ => 1#1) (i : Fin 20000) : (s (ix1 i) : EReal) ≠ ⊤ := by
  have h1 := congrFun h (ix1 i)
  have h2 : BitVec.ofBool (decide ((s (ix1 i) : EReal) < Ideal.ofBits .f32 0x7F800000#32)) = 1#1 := h1
  have h3 := (KRun.ofBool_decide_eq_one _).mp h2
  exact ne_top_of_lt h3

/-- So no selected score is +∞. -/
theorem selected (x : FVec Ideal Cert.ReferenceIdeal.S20000x4 .f32) (s : FVec Ideal Cert.ReferenceIdeal.S20000 .f32)
    (h : Cert.Pre_scores_below_infinity.fn (F := Ideal) x s = fun _ => 1#1) (i : Fin 2000) : (RRun.topScores s (ix1 i) : EReal) ≠ ⊤ := by
  have e : (RRun.topScores s (ix1 i) : EReal) = _ := RRun.topScores_apply s i
  rw [e]
  exact below x s h _
end

/-! ## The reference's run -/

section
open Cert.ReferenceIdeal Cert.ReferenceIdeal.Gen Cert.ReferenceIdeal.Value
open Idealize.ShloMosaic.TcCoe

variable (m : (ℓ : Loc nD τ sig) → Buf (Elt Ideal) ℓ) (ρ : Dev nD → PrngReg)

/-- The reference ends with the boxes and scores its last selection takes, and with its arguments unchanged. -/
theorem reference_results : θ_run (defs (F := Ideal)) (onTc (τ := τ) (main (F := Ideal))) ⟨m, fun _ => 0, ρ⟩ (fun r => ∀ c : Dev nD,
      r.2.mem ((c.tc : Thread nD τ).loc main_v96)
        = RRun.takeOut (RRun.sortedBoxes (RRun.bx m c) (RRun.sc m c)) (RRun.outIndices (RRun.keptScores m c))
      ∧ r.2.mem ((c.tc : Thread nD τ).loc main_values_15) = RRun.outScores (RRun.keptScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c main_v96 rfl).trans (RRun.final_boxes m c), (h.1 c main_values_15 rfl).trans (RRun.final_scores m c),
      (h.2.1 c).1, (h.2.1 c).2⟩)
    (θ_run_and (run_fold m ρ) (RRun.frame m ρ))
end

/-! ## The equation -/

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (h0 : RRun.bx m' c = KRun.boxesArg m c) (h1 : RRun.sc m' c = KRun.scoresArg m c)
variable (hT : ∀ i, (RRun.topScores (RRun.sc m' c) (ix1 i) : EReal) ≠ ⊤)

include h0 h1 in
theorem region_eq : KRun.regionVal m c
    = block (RRun.takeBoxes (RRun.bx m' c) (RRun.topIndices (RRun.sc m' c))) (RRun.topScores (RRun.sc m' c)) := by
  rw [h0, h1]
  exact KRun.regionVal_eq m c

include h0 h1 hT in
theorem boxes_agree : KRun.firstColumns (KRun.regionVal m c)
    = RRun.takeOut (RRun.sortedBoxes (RRun.bx m' c) (RRun.sc m' c)) (RRun.outIndices (RRun.keptScores m' c)) := by
  rw [region_eq m m' c h0 h1]
  exact boxes_eq _ _ hT (RRun.topScores_anti (RRun.sc m' c)) (RRun.keptBits m' c) (RRun.keptBits_iff m' c)

include h0 h1 hT in
theorem scores_agree : KRun.fifthColumn (KRun.regionVal m c) = RRun.outScores (RRun.keptScores m' c) := by
  rw [region_eq m m' c h0 h1]
  exact scores_eq _ _ hT (RRun.topScores_anti (RRun.sc m' c)) (RRun.keptBits m' c) (RRun.keptBits_iff m' c)
end

open Cert.KernelIdeal.Gen Cert.ReferenceIdeal.Gen in
/-- From memories that agree on the arguments, no score being +∞, both programs end with the same boxes and scores. -/
theorem algebraic [Cert.Pre_scores_below_infinity.Facts] : Cert.algebraic_KernelIdeal_ReferenceIdeal_pre_scores_below_infinity :=
  fun m g m' g' hp ha => ⟨fun c => KRun.firstColumns (KRun.regionVal m c), fun c => KRun.fifthColumn (KRun.regionVal m c),
    KRun.results m g,
    (θ_run Cert.ReferenceIdeal.defs _ _).mono (fun _ h c =>
      have hT : ∀ i, (RRun.topScores (RRun.sc m' c) (ix1 i) : EReal) ≠ ⊤ := fun i => by
        have e : RRun.sc m' c = KRun.scoresArg m c := (ha c).2
        rw [e]
        exact selected _ _ (hp c) i
      ⟨(h c).1.trans (boxes_agree m m' c (ha c).1 (ha c).2 hT).symm, (h c).2.1.trans (scores_agree m m' c (ha c).1 (ha c).2 hT).symm,
        (h c).2.2.1, (h c).2.2.2⟩) (reference_results m' g')⟩

end Cert.Proof.Final

end
-- ==== Proof.lean ====
module

public import proofs.«01_k».proof.Defs
public import proofs.«01_k».proof.Proof.KRun
public import proofs.«01_k».proof.Proof.KEnds
public import proofs.«01_k».proof.Proof.RRun
public import proofs.«01_k».proof.Proof.Final

@[expose] public section

noncomputable section

namespace Cert.Proof

open Idealize.ShloMosaic Idealize.SL.Sem

/-- Both programs run, leave their arguments alone, and end with every semaphore at zero; and where no score is +∞ they
    return the same boxes and the same scores. -/
theorem claim : Cert.Claim := ⟨Cert.KernelIdeal.Gen.facts, Cert.ReferenceIdeal.Gen.facts, Final.preFacts,
  fun m g _ => KRun.frame 2049 m g KRun.loopEnds,
  fun m g _ => KRun.frame 2049 m g KRun.loopEnds,
  fun m g _ => RRun.frame m g,
  fun m g _ => RRun.frame m g,
  @Final.algebraic Final.preFacts⟩

end Cert.Proof

end
